-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v163_1)) (v1 : (c : Dev Cert.Kernel2Ideal.nD) → Buf (Elt Ideal) ((c.tc : Thread Cert.Kernel2Ideal.nD Cert.Kernel2Ideal.τ).loc Cert.Kernel2Ideal.main_v163_2)) (v2 : (c : Dev Cert.Kernel2Ideal.nD) → Buf (Elt Ideal) ((c.tc : Thread Cert.Kernel2Ideal.nD Cert.Kernel2Ideal.τ).loc Cert.Kernel2Ideal.main_v163_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v163_1) = v0 c
          ∧ r.2.mem ((c.tc : Thread Cert.Kernel2Ideal.nD Cert.Kernel2Ideal.τ).loc Cert.Kernel2Ideal.main_v163_2) = v1 c
          ∧ r.2.mem ((c.tc : Thread Cert.Kernel2Ideal.nD Cert.Kernel2Ideal.τ).loc Cert.Kernel2Ideal.main_v163_3) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_v116) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel2.lean ====
abbrev S16x16x1024 : Shape := ⟨3, ![16, 16, 1024]⟩
abbrev S1x16x128x2x64 : Shape := ⟨5, ![1, 16, 128, 2, 64]⟩
abbrev S1x16x4x128x128 : Shape := ⟨5, ![1, 16, 4, 128, 128]⟩
abbrev S1x1024x2816 : Shape := ⟨3, ![1, 1024, 2816]⟩
abbrev S1x512 : Shape := ⟨2, ![1, 512]⟩
abbrev S1x8 : Shape := ⟨2, ![1, 8]⟩
abbrev S1x1024x1024 : Shape := ⟨3, ![1, 1024, 1024]⟩
abbrev S1x1024 : Shape := ⟨2, ![1, 1024]⟩
abbrev S16 : Shape := ⟨1, ![16]⟩
abbrev S_ : Shape := ⟨0, ![]⟩
abbrev S1x16 : Shape := ⟨2, ![1, 16]⟩
abbrev S8x16 : Shape := ⟨2, ![8, 16]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64 : Shape := ⟨2, ![128, 64]⟩
abbrev S128x128 : Shape := ⟨2, ![128, 128]⟩
abbrev S8 : Shape := ⟨1, ![8]⟩
abbrev S128x8 : Shape := ⟨2, ![128, 8]⟩
abbrev S128x48 : Shape := ⟨2, ![128, 48]⟩
abbrev S1x128x1x64 : Shape := ⟨4, ![1, 128, 1, 64]⟩
abbrev S1x128x2x64 : Shape := ⟨4, ![1, 128, 2, 64]⟩
abbrev S128x640 : Shape := ⟨2, ![128, 640]⟩
abbrev S4 : Shape := ⟨1, ![4]⟩
abbrev S16x1 : Shape := ⟨2, ![16, 1]⟩
abbrev S16x16 : Shape := ⟨2, ![16, 16]⟩
abbrev S4x1x1 : Shape := ⟨3, ![4, 1, 1]⟩
abbrev S1x16x16 : Shape := ⟨3, ![1, 16, 16]⟩
abbrev S4x16x16 : Shape := ⟨3, ![4, 16, 16]⟩
abbrev S1x4 : Shape := ⟨2, ![1, 4]⟩
abbrev S16x4 : Shape := ⟨2, ![16, 4]⟩
abbrev S16x4x128 : Shape := ⟨3, ![16, 4, 128]⟩
abbrev S16x512 : Shape := ⟨2, ![16, 512]⟩
abbrev S1x4x128 : Shape := ⟨3, ![1, 4, 128]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S1x128x128 : Shape := ⟨3, ![1, 128, 128]⟩
abbrev S4x128x128 : Shape := ⟨3, ![4, 128, 128]⟩
abbrev S1x16x1x512 : Shape := ⟨4, ![1, 16, 1, 512]⟩
abbrev S8x16x1x512 : Shape := ⟨4, ![8, 16, 1, 512]⟩
abbrev S128x512 : Shape := ⟨2, ![128, 512]⟩
abbrev S16x128x2x64 : Shape := ⟨4, ![16, 128, 2, 64]⟩
abbrev S16x2x64x128 : Shape := ⟨4, ![16, 2, 64, 128]⟩
abbrev S16x4x128x128 : Shape := ⟨4, ![16, 4, 128, 128]⟩
abbrev S1024x2816 : Shape := ⟨2, ![1024, 2816]⟩
abbrev S1024x1024 : Shape := ⟨2, ![1024, 1024]⟩
abbrev S256x1024 : Shape := ⟨2, ![256, 1024]⟩
abbrev S16x16x2x64 : Shape := ⟨4, ![16, 16, 2, 64]⟩
abbrev S8x2x64x128 : Shape := ⟨4, ![8, 2, 64, 128]⟩
abbrev S8x4x128x128 : Shape := ⟨4, ![8, 4, 128, 128]⟩
abbrev S8x16x2x64 : Shape := ⟨4, ![8, 16, 2, 64]⟩
abbrev S256x2816 : Shape := ⟨2, ![256, 2816]⟩
abbrev S1024x512 : Shape := ⟨2, ![1024, 512]⟩
abbrev S16x128 : Shape := ⟨2, ![16, 128]⟩
abbrev S16x64 : Shape := ⟨2, ![16, 64]⟩
abbrev S1x16x1x64 : Shape := ⟨4, ![1, 16, 1, 64]⟩
abbrev S1x1x64x128 : Shape := ⟨4, ![1, 1, 64, 128]⟩
abbrev S64x128 : Shape := ⟨2, ![64, 128]⟩
abbrev S144x128 : Shape := ⟨2, ![144, 128]⟩
abbrev S1x1x128x128 : Shape := ⟨4, ![1, 1, 128, 128]⟩
abbrev S32x128 : Shape := ⟨2, ![32, 128]⟩
abbrev S288x128 : Shape := ⟨2, ![288, 128]⟩
abbrev S32x288 : Shape := ⟨2, ![32, 288]⟩
abbrev S1x128 : Shape := ⟨2, ![1, 128]⟩
abbrev S32x1 : Shape := ⟨2, ![32, 1]⟩
abbrev S1 : Shape := ⟨1, ![1]⟩
abbrev S32x32 : Shape := ⟨2, ![32, 32]⟩
abbrev S32 : Shape := ⟨1, ![32]⟩
abbrev S288x256 : Shape := ⟨2, ![288, 256]⟩
abbrev S32x256 : Shape := ⟨2, ![32, 256]⟩
abbrev S256 : Shape := ⟨1, ![256]⟩
abbrev S256x1 : Shape := ⟨2, ![256, 1]⟩

abbrev nBuf : Space → Nat
  | .hbm => 225
  | .vmem => 28
  | .smem => 1
  | _ => 0

abbrev hbmTy0_0 (i : Nat) : BufTy := match i % 128 with
  | 0 => ⟨S16x16x1024, .f32⟩
  | 1 => ⟨S1x16x128x2x64, .f32⟩
  | 2 => ⟨S1x16x128x2x64, .f32⟩
  | 3 => ⟨S1x16x4x128x128, .f32⟩
  | 4 => ⟨S1x1024x2816, .f32⟩
  | 5 => ⟨S1x512, .f32⟩
  | 6 => ⟨S1x8, .f32⟩
  | 7 => ⟨S1x1024x1024, .f32⟩
  | 8 => ⟨S1x1024, .f32⟩
  | 9 => ⟨S1x1024, .f32⟩
  | 10 => ⟨S16, .i32⟩
  | 11 => ⟨S_, .i32⟩
  | 12 => ⟨S16, .i32⟩
  | 13 => ⟨S16, .i32⟩
  | 14 => ⟨S1x16, .i32⟩
  | 15 => ⟨S8x16, .i32⟩
  | 16 => ⟨S128, .i32⟩
  | 17 => ⟨S128, .f32⟩
  | 18 => ⟨S128x1, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S1x64, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x128, .f32⟩
  | 34 => ⟨S128x64, .f32⟩
  | 35 => ⟨S128x128, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S1x8, .f32⟩
  | 45 => ⟨S128x8, .f32⟩
  | 46 => ⟨S128x8, .f32⟩
  | 47 => ⟨S128x8, .f32⟩
  | 48 => ⟨S128x8, .f32⟩
  | 49 => ⟨S128x8, .f32⟩
  | 50 => ⟨S_, .f32⟩
  | 51 => ⟨S128x8, .f32⟩
  | 52 => ⟨S_, .f32⟩
  | 53 => ⟨S128x48, .f32⟩
  | 54 => ⟨S128x64, .f32⟩
  | 55 => ⟨S1x128x1x64, .f32⟩
  | 56 => ⟨S1x128x2x64, .f32⟩
  | 57 => ⟨S128x128, .f32⟩
  | 58 => ⟨S_, .f32⟩
  | 59 => ⟨S128x48, .f32⟩
  | 60 => ⟨S128x64, .f32⟩
  | 61 => ⟨S1x128x1x64, .f32⟩
  | 62 => ⟨S1x128x2x64, .f32⟩
  | 63 => ⟨S128x128, .f32⟩
  | 64 => ⟨S128x8, .f32⟩
  | 65 => ⟨S_, .f32⟩
  | 66 => ⟨S128x48, .f32⟩
  | 67 => ⟨S128x64, .f32⟩
  | 68 => ⟨S1x128x1x64, .f32⟩
  | 69 => ⟨S1x128x2x64, .f32⟩
  | 70 => ⟨S128x128, .f32⟩
  | 71 => ⟨S128x640, .f32⟩
  | 72 => ⟨S4, .f32⟩
  | 73 => ⟨S_, .f32⟩
  | 74 => ⟨S4, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S16, .f32⟩
  | 82 => ⟨S16x1, .f32⟩
  | 83 => ⟨S1x16, .f32⟩
  | 84 => ⟨S16x16, .f32⟩
  | 85 => ⟨S16x16, .f32⟩
  | 86 => ⟨S16x16, .f32⟩
  | 87 => ⟨S_, .f32⟩
  | 88 => ⟨S16x16, .f32⟩
  | 89 => ⟨S16x16, .i1⟩
  | 90 => ⟨S4x1x1, .f32⟩
  | 91 => ⟨S_, .f32⟩
  | 92 => ⟨S16x16, .f32⟩
  | 93 => ⟨S16x16, .f32⟩
  | 94 => ⟨S1x16x16, .f32⟩
  | 95 => ⟨S4x16x16, .f32⟩
  | 96 => ⟨S4x16x16, .f32⟩
  | 97 => ⟨S4x16x16, .f32⟩
  | 98 => ⟨S4x16x16, .f32⟩
  | 99 => ⟨S_, .f32⟩
  | 100 => ⟨S_, .f32⟩
  | 101 => ⟨S4x16x16, .i1⟩
  | 102 => ⟨S4x16x16, .f32⟩
  | 103 => ⟨S4x16x16, .f32⟩
  | 104 => ⟨S_, .f32⟩
  | 105 => ⟨S4x16x16, .f32⟩
  | 106 => ⟨S4x16x16, .f32⟩
  | 107 => ⟨S1x4, .f32⟩
  | 108 => ⟨S16x1, .f32⟩
  | 109 => ⟨S_, .f32⟩
  | 110 => ⟨S16x1, .f32⟩
  | 111 => ⟨S16x1, .f32⟩
  | 112 => ⟨S16x4, .f32⟩
  | 113 => ⟨S16x4, .f32⟩
  | 114 => ⟨S16x4, .f32⟩
  | 115 => ⟨S16x4, .f32⟩
  | 116 => ⟨S16x4x128, .f32⟩
  | 117 => ⟨S16x512, .f32⟩
  | 118 => ⟨S1x4, .f32⟩
  | 119 => ⟨S16x1, .f32⟩
  | 120 => ⟨S_, .f32⟩
  | 121 => ⟨S16x1, .f32⟩
  | 122 => ⟨S16x1, .f32⟩
  | 123 => ⟨S16x4, .f32⟩
  | 124 => ⟨S16x4, .f32⟩
  | 125 => ⟨S16x4, .f32⟩
  | 126 => ⟨S16x4, .f32⟩
  | 127 => ⟨S16x4x128, .f32⟩
  | _ => ⟨S16x16x1024, .f32⟩

abbrev hbmTy0_1 (i : Nat) : BufTy := match i % 128 with
  | 0 => ⟨S16x512, .f32⟩
  | 1 => ⟨S_, .f32⟩
  | 2 => ⟨S16x512, .f32⟩
  | 3 => ⟨S16x512, .f32⟩
  | 4 => ⟨S_, .f32⟩
  | 5 => ⟨S4, .f32⟩
  | 6 => ⟨S4, .f32⟩
  | 7 => ⟨S4, .f32⟩
  | 8 => ⟨S1x4, .f32⟩
  | 9 => ⟨S1x4x128, .f32⟩
  | 10 => ⟨S1x512, .f32⟩
  | 11 => ⟨S1x16x16, .f32⟩
  | 12 => ⟨S16x16, .f32⟩
  | 13 => ⟨S1x16x16, .f32⟩
  | 14 => ⟨S16x16, .f32⟩
  | 15 => ⟨S1x16x16, .f32⟩
  | 16 => ⟨S16x16, .f32⟩
  | 17 => ⟨S1x16x16, .f32⟩
  | 18 => ⟨S16x16, .f32⟩
  | 19 => ⟨S8x8, .i32⟩
  | 20 => ⟨S8x8, .i32⟩
  | 21 => ⟨S_, .i32⟩
  | 22 => ⟨S8x8, .i32⟩
  | 23 => ⟨S8x8, .i32⟩
  | 24 => ⟨S8x8, .i1⟩
  | 25 => ⟨S8x8, .f32⟩
  | 26 => ⟨S8x1x8x1, .f32⟩
  | 27 => ⟨S1x16x1x16, .f32⟩
  | 28 => ⟨S8x16x8x16, .f32⟩
  | 29 => ⟨S8x16x8x16, .f32⟩
  | 30 => ⟨S8x16x8x16, .f32⟩
  | 31 => ⟨S128x128, .f32⟩
  | 32 => ⟨S8x8, .i32⟩
  | 33 => ⟨S8x8, .i32⟩
  | 34 => ⟨S_, .i32⟩
  | 35 => ⟨S8x8, .i32⟩
  | 36 => ⟨S8x8, .i32⟩
  | 37 => ⟨S8x8, .i1⟩
  | 38 => ⟨S8x8, .f32⟩
  | 39 => ⟨S8x1x8x1, .f32⟩
  | 40 => ⟨S1x16x1x16, .f32⟩
  | 41 => ⟨S8x16x8x16, .f32⟩
  | 42 => ⟨S8x16x8x16, .f32⟩
  | 43 => ⟨S8x16x8x16, .f32⟩
  | 44 => ⟨S128x128, .f32⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S8x8, .f32⟩
  | 52 => ⟨S8x1x8x1, .f32⟩
  | 53 => ⟨S1x16x1x16, .f32⟩
  | 54 => ⟨S8x16x8x16, .f32⟩
  | 55 => ⟨S8x16x8x16, .f32⟩
  | 56 => ⟨S8x16x8x16, .f32⟩
  | 57 => ⟨S128x128, .f32⟩
  | 58 => ⟨S8x8, .i32⟩
  | 59 => ⟨S8x8, .i32⟩
  | 60 => ⟨S_, .i32⟩
  | 61 => ⟨S8x8, .i32⟩
  | 62 => ⟨S8x8, .i32⟩
  | 63 => ⟨S8x8, .i1⟩
  | 64 => ⟨S8x8, .f32⟩
  | 65 => ⟨S8x1x8x1, .f32⟩
  | 66 => ⟨S1x16x1x16, .f32⟩
  | 67 => ⟨S8x16x8x16, .f32⟩
  | 68 => ⟨S8x16x8x16, .f32⟩
  | 69 => ⟨S8x16x8x16, .f32⟩
  | 70 => ⟨S128x128, .f32⟩
  | 71 => ⟨S1x128x128, .f32⟩
  | 72 => ⟨S1x128x128, .f32⟩
  | 73 => ⟨S1x128x128, .f32⟩
  | 74 => ⟨S1x128x128, .f32⟩
  | 75 => ⟨S4x128x128, .f32⟩
  | 76 => ⟨S1x16x1x512, .f32⟩
  | 77 => ⟨S8x16x1x512, .f32⟩
  | 78 => ⟨S128x512, .f32⟩
  | 79 => ⟨S1x16x1x512, .f32⟩
  | 80 => ⟨S8x16x1x512, .f32⟩
  | 81 => ⟨S128x512, .f32⟩
  | 82 => ⟨S16x128x2x64, .f32⟩
  | 83 => ⟨S16x2x64x128, .f32⟩
  | 84 => ⟨S16x128x2x64, .f32⟩
  | 85 => ⟨S16x2x64x128, .f32⟩
  | 86 => ⟨S16x4x128x128, .f32⟩
  | 87 => ⟨S8, .f32⟩
  | 88 => ⟨S1024x2816, .f32⟩
  | 89 => ⟨S1024x1024, .f32⟩
  | 90 => ⟨S256x1024, .f32⟩
  | 91 => ⟨S256x1024, .f32⟩
  | 92 => ⟨S16x16x2x64, .f32⟩
  | 93 => ⟨S16x16x2x64, .f32⟩
  | 94 => ⟨S16x4x128x128, .f32⟩
  | 95 => ⟨S1024x2816, .bf16⟩
  | 96 => ⟨S1024x1024, .bf16⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S128x640, .f32⟩
  | .local _ .vmem, ⟨2, _⟩ => ⟨S4x128x128, .f32⟩
  | .local _ .vmem, ⟨3, _⟩ => ⟨S128x512, .f32⟩
  | .local _ .vmem, ⟨4, _⟩ => ⟨S128x512, .f32⟩
  | .local _ .vmem, ⟨5, _⟩ => ⟨S1x512, .f32⟩
  | .local _ .vmem, ⟨6, _⟩ => ⟨S8x2x64x128, .f32⟩
  | .local _ .vmem, ⟨7, _⟩ => ⟨S8x2x64x128, .f32⟩
  | .local _ .vmem, ⟨8, _⟩ => ⟨S8x2x64x128, .f32⟩
  | .local _ .vmem, ⟨9, _⟩ => ⟨S8x2x64x128, .f32⟩
  | .local _ .vmem, ⟨10, _⟩ => ⟨S8x4x128x128, .f32⟩
  | .local _ .vmem, ⟨11, _⟩ => ⟨S8x4x128x128, .f32⟩
  | .local _ .vmem, ⟨12, _⟩ => ⟨S1024x2816, .f32⟩
  | .local _ .vmem, ⟨13, _⟩ => ⟨S1x512, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S256x1024, .f32⟩
  | .local _ .vmem, ⟨18, _⟩ => ⟨S8x16x2x64, .f32⟩
  | .local _ .vmem, ⟨19, _⟩ => ⟨S8x16x2x64, .f32⟩
  | .local _ .vmem, ⟨20, _⟩ => ⟨S8x16x2x64, .f32⟩
  | .local _ .vmem, ⟨21, _⟩ => ⟨S8x16x2x64, .f32⟩
  | .local _ .vmem, ⟨22, _⟩ => ⟨S8x4x128x128, .f32⟩
  | .local _ .vmem, ⟨23, _⟩ => ⟨S8x4x128x128, .f32⟩
  | .local _ .vmem, ⟨24, _⟩ => ⟨S1024x2816, .bf16⟩
  | .local _ .vmem, ⟨25, _⟩ => ⟨S1024x1024, .bf16⟩
  | .local _ .vmem, ⟨26, _⟩ => ⟨S256x2816, .f32⟩
  | .local _ .vmem, ⟨27, _⟩ => ⟨S256x1024, .bf16⟩
  | .local _ .smem, ⟨0, _⟩ => ⟨S8, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_13 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_15 : Ref sig .tc := ⟨.hbm, 129, rfl⟩
abbrev main_v99 : Ref sig .tc := ⟨.hbm, 130, rfl⟩
abbrev main_v100 : Ref sig .tc := ⟨.hbm, 131, rfl⟩
abbrev main_cst_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_17 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_18 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_call2_v3 : Ref sig .tc := ⟨.hbm, 170, rfl⟩
abbrev main_call2_v4 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_c_19 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_c_20 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call4_v0 : Ref sig .tc := ⟨.hbm, 193, rfl⟩
abbrev main_call4_v1 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163_0 : Ref sig .tc := ⟨.hbm, 219, rfl⟩
abbrev main_v163_1 : Ref sig .tc := ⟨.hbm, 220, rfl⟩
abbrev main_v163_2 : Ref sig .tc := ⟨.hbm, 221, rfl⟩
abbrev main_v163_3 : Ref sig .tc := ⟨.hbm, 222, rfl⟩
abbrev main_v163_4 : Ref sig .tc := ⟨.hbm, 223, rfl⟩
abbrev main_v163_5 : Ref sig .tc := ⟨.hbm, 224, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg20_0 : Ref sig .tc := ⟨.vmem, 25, rfl⟩
abbrev cc0_scratch0 : Ref sig .tc := ⟨.vmem, 26, rfl⟩
abbrev cc0_scratch1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem20_0 : DmaSem sig := 26

abbrev nD : Nat := 1
abbrev τ : Topo := Topo.v7x

variable {F : FTy → Type} [FloatOps F]

abbrev grid0 : Pipeline.Grid := ⟨1, ![2], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v5 : Index := Scalar.indexCast v4
  let c0 : Index := 0#32
  ![v5.toNat, 0]
def k0_off2 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v15 : Index := Scalar.indexCast v4
  let c128_4 : Index := 128#32
  ![v15.toNat, 128]
def k0_off3 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v25 : Index := Scalar.indexCast v4
  let c256 : Index := 256#32
  ![v25.toNat, 256]
def k0_off4 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v35 : Index := Scalar.indexCast v4
  let c384 : Index := 384#32
  ![v35.toNat, 384]
def k0_off5 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v45 : Index := Scalar.indexCast v4
  let c512 : Index := 512#32
  ![v45.toNat, 512]
def k0_off6 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v55 : Index := Scalar.indexCast v4
  let c640 : Index := 640#32
  ![v55.toNat, 640]
def k0_off7 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v65 : Index := Scalar.indexCast v4
  let c768 : Index := 768#32
  ![v65.toNat, 768]
def k0_off8 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v75 : Index := Scalar.indexCast v4
  let c896 : Index := 896#32
  ![v75.toNat, 896]
def k0_off9 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v109 : Index := Scalar.indexCast v4
  let c1024 : Index := 1024#32
  ![v109.toNat, 1024]
def k0_off10 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v112 : Index := Scalar.indexCast v4
  let c1152 : Index := 1152#32
  ![v112.toNat, 1152]
def k0_off11 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v115 : Index := Scalar.indexCast v4
  let c1280 : Index := 1280#32
  ![v115.toNat, 1280]
def k0_off12 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v118 : Index := Scalar.indexCast v4
  let c1408 : Index := 1408#32
  ![v118.toNat, 1408]
def k0_off13 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v121 : Index := Scalar.indexCast v4
  let c2560 : Index := 2560#32
  ![v121.toNat, 2560]
def k0_off14 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v136 : Index := Scalar.indexCast v4
  let c2688 : Index := 2688#32
  ![v136.toNat, 2688]
def k0_off15 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v298 : Index := Scalar.indexCast v4
  let c2048 : Index := 2048#32
  ![v298.toNat, 2048]
def k0_off16 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v314 : Index := Scalar.indexCast v4
  let c2176 : Index := 2176#32
  ![v314.toNat, 2176]
def k0_off17 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v330 : Index := Scalar.indexCast v4
  let c2304 : Index := 2304#32
  ![v330.toNat, 2304]
def k0_off18 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v346 : Index := Scalar.indexCast v4
  let c2432 : Index := 2432#32
  ![v346.toNat, 2432]
def k0_off19 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2701 : Index := Scalar.indexCast v4
  let c1536 : Index := 1536#32
  ![v2701.toNat, 1536]
def k0_off20 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2707 : Index := Scalar.indexCast v4
  let c0_1183 : Index := 0#32
  ![v2707.toNat, 0]
def k0_off21 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2735 : Index := Scalar.indexCast v4
  let c1664 : Index := 1664#32
  ![v2735.toNat, 1664]
def k0_off22 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2741 : Index := Scalar.indexCast v4
  let c128_1193 : Index := 128#32
  ![v2741.toNat, 128]
def k0_off23 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2769 : Index := Scalar.indexCast v4
  let c1792 : Index := 1792#32
  ![v2769.toNat, 1792]
def k0_off24 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2775 : Index := Scalar.indexCast v4
  let c256_1203 : Index := 256#32
  ![v2775.toNat, 256]
def k0_off25 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2803 : Index := Scalar.indexCast v4
  let c1920 : Index := 1920#32
  ![v2803.toNat, 1920]
def k0_off26 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2809 : Index := Scalar.indexCast v4
  let c384_1213 : Index := 384#32
  ![v2809.toNat, 384]
def k0_off27 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2822 : Index := Scalar.indexCast v4
  let c512_1214 : Index := 512#32
  ![v2822.toNat, 512]
def k0_off28 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2835 : Index := Scalar.indexCast v4
  let c640_1215 : Index := 640#32
  ![v2835.toNat, 640]
def k0_off29 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2848 : Index := Scalar.indexCast v4
  let c768_1216 : Index := 768#32
  ![v2848.toNat, 768]
def k0_off30 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v2861 : Index := Scalar.indexCast v4
  let c896_1217 : Index := 896#32
  ![v2861.toNat, 896]
def k0_cond2 (i : grid0.Coords) : BitVec 1 :=
  let arg0 : BitVec 32 := BitVec.ofNat 32 (i 0).val
  let c1_i32 : BitVec 32 := 1#32
  let v2865 : BitVec 1 := Scalar.cmpi .eq arg0 c1_i32
  let v2866 : BitVec 32 := Scalar.extui v2865
  let c0_i32_1218 : BitVec 32 := 0#32
  let v2867 : BitVec 1 := Scalar.cmpi .ne v2866 c0_i32_1218
  v2867

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x16x2x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x16x2x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x4x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x2816 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S16x16x1024 : Shape := ⟨3, ![16, 16, 1024]⟩
abbrev S1x16x128x2x64 : Shape := ⟨5, ![1, 16, 128, 2, 64]⟩
abbrev S1x16x4x128x128 : Shape := ⟨5, ![1, 16, 4, 128, 128]⟩
abbrev S1x1024x2816 : Shape := ⟨3, ![1, 1024, 2816]⟩
abbrev S1x512 : Shape := ⟨2, ![1, 512]⟩
abbrev S1x8 : Shape := ⟨2, ![1, 8]⟩
abbrev S1x1024x1024 : Shape := ⟨3, ![1, 1024, 1024]⟩
abbrev S1x1024 : Shape := ⟨2, ![1, 1024]⟩
abbrev S16 : Shape := ⟨1, ![16]⟩
abbrev S_ : Shape := ⟨0, ![]⟩
abbrev S1024x2816 : Shape := ⟨2, ![1024, 2816]⟩
abbrev S16x16x2816 : Shape := ⟨3, ![16, 16, 2816]⟩
abbrev S16x16x512 : Shape := ⟨3, ![16, 16, 512]⟩
abbrev S16x16x128 : Shape := ⟨3, ![16, 16, 128]⟩
abbrev S16x16x4x128 : Shape := ⟨4, ![16, 16, 4, 128]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S16x1x64 : Shape := ⟨3, ![16, 1, 64]⟩
abbrev S16x16x4x64 : Shape := ⟨4, ![16, 16, 4, 64]⟩
abbrev S1x16x1x64 : Shape := ⟨4, ![1, 16, 1, 64]⟩
abbrev S16x16x4x0 : Shape := ⟨4, ![16, 16, 4, 0]⟩
abbrev S16x16x2x64 : Shape := ⟨4, ![16, 16, 2, 64]⟩
abbrev S8 : Shape := ⟨1, ![8]⟩
abbrev S16x8 : Shape := ⟨2, ![16, 8]⟩
abbrev S16x1x8 : Shape := ⟨3, ![16, 1, 8]⟩
abbrev S16x16x2x16 : Shape := ⟨4, ![16, 16, 2, 16]⟩
abbrev S16x16x2x8 : Shape := ⟨4, ![16, 16, 2, 8]⟩
abbrev S1x16x1x8 : Shape := ⟨4, ![1, 16, 1, 8]⟩
abbrev S16x16x2x48 : Shape := ⟨4, ![16, 16, 2, 48]⟩
abbrev S16x4x128x128 : Shape := ⟨4, ![16, 4, 128, 128]⟩
abbrev S4 : Shape := ⟨1, ![4]⟩
abbrev S1x4 : Shape := ⟨2, ![1, 4]⟩
abbrev S16x4 : Shape := ⟨2, ![16, 4]⟩
abbrev S1x4x1x1 : Shape := ⟨4, ![1, 4, 1, 1]⟩
abbrev S1x16x4x1 : Shape := ⟨4, ![1, 16, 4, 1]⟩

abbrev nBuf : Space → Nat
  | .hbm => 137
  | .vmem => 0
  | .smem => 0
  | _ => 0

abbrev hbmTy0_0 (i : Nat) : BufTy := match i % 128 with
  | 0 => ⟨S16x16x1024, .f32⟩
  | 1 => ⟨S1x16x128x2x64, .f32⟩
  | 2 => ⟨S1x16x128x2x64, .f32⟩
  | 3 => ⟨S1x16x4x128x128, .f32⟩
  | 4 => ⟨S1x1024x2816, .f32⟩
  | 5 => ⟨S1x512, .f32⟩
  | 6 => ⟨S1x8, .f32⟩
  | 7 => ⟨S1x1024x1024, .f32⟩
  | 8 => ⟨S1x1024, .f32⟩
  | 9 => ⟨S1x1024, .f32⟩
  | 10 => ⟨S16, .i32⟩
  | 11 => ⟨S_, .i32⟩
  | 12 => ⟨S16, .i32⟩
  | 13 => ⟨S16, .i32⟩
  | 14 => ⟨S1024x2816, .f32⟩
  | 15 => ⟨S16x16x2816, .f32⟩
  | 16 => ⟨S16x16x512, .f32⟩
  | 17 => ⟨S16x16x512, .f32⟩
  | 18 => ⟨S16x16x512, .f32⟩
  | 19 => ⟨S16x16x512, .f32⟩
  | 20 => ⟨S16x16x512, .f32⟩
  | 21 => ⟨S16x16x128, .f32⟩
  | 22 => ⟨S16x16x128, .f32⟩
  | 23 => ⟨S16x16x4x128, .f32⟩
  | 24 => ⟨S_, .f32⟩
  | 25 => ⟨S16x16x4x128, .f32⟩
  | 26 => ⟨S16x16x4x128, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S16, .f32⟩
  | 36 => ⟨S16x1, .f32⟩
  | 37 => ⟨S1x64, .f32⟩
  | 38 => ⟨S16x64, .f32⟩
  | 39 => ⟨S16x64, .f32⟩
  | 40 => ⟨S16x64, .f32⟩
  | 41 => ⟨S16x64, .f32⟩
  | 42 => ⟨S16x1x64, .f32⟩
  | 43 => ⟨S16x64, .f32⟩
  | 44 => ⟨S16x1x64, .f32⟩
  | 45 => ⟨S16x16x4x64, .f32⟩
  | 46 => ⟨S16x16x4x64, .f32⟩
  | 47 => ⟨S1x16x1x64, .f32⟩
  | 48 => ⟨S16x16x4x64, .f32⟩
  | 49 => ⟨S16x16x4x64, .f32⟩
  | 50 => ⟨S1x16x1x64, .f32⟩
  | 51 => ⟨S16x16x4x64, .f32⟩
  | 52 => ⟨S16x16x4x64, .f32⟩
  | 53 => ⟨S16x16x4x64, .f32⟩
  | 54 => ⟨S1x16x1x64, .f32⟩
  | 55 => ⟨S16x16x4x64, .f32⟩
  | 56 => ⟨S16x16x4x64, .f32⟩
  | 57 => ⟨S1x16x1x64, .f32⟩
  | 58 => ⟨S16x16x4x64, .f32⟩
  | 59 => ⟨S16x16x4x64, .f32⟩
  | 60 => ⟨S16x16x4x64, .f32⟩
  | 61 => ⟨S16x16x4x128, .f32⟩
  | 62 => ⟨S16x16x4x0, .f32⟩
  | 63 => ⟨S16x16x4x128, .f32⟩
  | 64 => ⟨S16x16x4x128, .f32⟩
  | 65 => ⟨S16x16x2x64, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S16, .f32⟩
  | 75 => ⟨S16x1, .f32⟩
  | 76 => ⟨S1x8, .f32⟩
  | 77 => ⟨S16x8, .f32⟩
  | 78 => ⟨S16x8, .f32⟩
  | 79 => ⟨S16x8, .f32⟩
  | 80 => ⟨S16x8, .f32⟩
  | 81 => ⟨S16x1x8, .f32⟩
  | 82 => ⟨S16x8, .f32⟩
  | 83 => ⟨S16x1x8, .f32⟩
  | 84 => ⟨S16x16x2x16, .f32⟩
  | 85 => ⟨S16x16x2x8, .f32⟩
  | 86 => ⟨S16x16x2x8, .f32⟩
  | 87 => ⟨S1x16x1x8, .f32⟩
  | 88 => ⟨S16x16x2x8, .f32⟩
  | 89 => ⟨S16x16x2x8, .f32⟩
  | 90 => ⟨S1x16x1x8, .f32⟩
  | 91 => ⟨S16x16x2x8, .f32⟩
  | 92 => ⟨S16x16x2x8, .f32⟩
  | 93 => ⟨S16x16x2x8, .f32⟩
  | 94 => ⟨S1x16x1x8, .f32⟩
  | 95 => ⟨S16x16x2x8, .f32⟩
  | 96 => ⟨S16x16x2x8, .f32⟩
  | 97 => ⟨S1x16x1x8, .f32⟩
  | 98 => ⟨S16x16x2x8, .f32⟩
  | 99 => ⟨S16x16x2x8, .f32⟩
  | 100 => ⟨S16x16x2x8, .f32⟩
  | 101 => ⟨S16x16x2x16, .f32⟩
  | 102 => ⟨S16x16x2x48, .f32⟩
  | 103 => ⟨S16x16x2x64, .f32⟩
  | 104 => ⟨S16x16x2x64, .f32⟩
  | 105 => ⟨S16x4x128x128, .f32⟩
  | 106 => ⟨S4, .f32⟩
  | 107 => ⟨S_, .f32⟩
  | 108 => ⟨S4, .f32⟩
  | 109 => ⟨S4, .f32⟩
  | 110 => ⟨S_, .f32⟩
  | 111 => ⟨S4, .f32⟩
  | 112 => ⟨S4, .f32⟩
  | 113 => ⟨S4, .f32⟩
  | 114 => ⟨S4, .f32⟩
  | 115 => ⟨S16, .f32⟩
  | 116 => ⟨S1x4, .f32⟩
  | 117 => ⟨S16x1, .f32⟩
  | 118 => ⟨S_, .f32⟩
  | 119 => ⟨S16x1, .f32⟩
  | 120 => ⟨S16x1, .f32⟩
  | 121 => ⟨S16x4, .f32⟩
  | 122 => ⟨S16x4, .f32⟩
  | 123 => ⟨S16x4, .f32⟩
  | 124 => ⟨S16x4, .f32⟩
  | 125 => ⟨S_, .f32⟩
  | 126 => ⟨S4, .f32⟩
  | 127 => ⟨S4, .f32⟩
  | _ => ⟨S16x16x1024, .f32⟩

abbrev hbmTy0_1 (i : Nat) : BufTy := match i % 128 with
  | 0 => ⟨S4, .f32⟩
  | 1 => ⟨S1x4x1x1, .f32⟩
  | 2 => ⟨S16x4x128x128, .f32⟩
  | 3 => ⟨S16x4x128x128, .f32⟩
  | 4 => ⟨S1x16x4x1, .f32⟩
  | 5 => ⟨S16x16x4x128, .f32⟩
  | 6 => ⟨S16x16x4x128, .f32⟩
  | 7 => ⟨S16x4x128x128, .f32⟩
  | 8 => ⟨S16x4x128x128, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_4 : Ref sig .tc := ⟨.hbm, 107, rfl⟩
abbrev main_v91 : Ref sig .tc := ⟨.hbm, 108, rfl⟩
abbrev main_v92 : Ref sig .tc := ⟨.hbm, 109, rfl⟩
abbrev main_cst_5 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_6 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_7 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩

abbrev nD : Nat := 1
abbrev τ : Topo := Topo.v7x

variable {F : FTy → Type} [FloatOps F]
-- ==== Kernel3.lean ====
abbrev S8x2048x1024 : Shape := ⟨3, ![8, 2048, 1024]⟩
abbrev S16x16x1024 : Shape := ⟨3, ![16, 16, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S16384x1024 : Shape := ⟨2, ![16384, 1024]⟩
abbrev S256x1024 : Shape := ⟨2, ![256, 1024]⟩
abbrev S1024x4096 : Shape := ⟨2, ![1024, 4096]⟩
abbrev S4096x1024 : Shape := ⟨2, ![4096, 1024]⟩
abbrev S1024x1024 : Shape := ⟨2, ![1024, 1024]⟩
abbrev S512x4096 : Shape := ⟨2, ![512, 4096]⟩
abbrev S512x1024 : Shape := ⟨2, ![512, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩
abbrev S256x4096 : Shape := ⟨2, ![256, 4096]⟩

abbrev nBuf : Space → Nat
  | .hbm => 14
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S16x16x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S256x1024, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .bf16⟩
  | .hbm, ⟨12, _⟩ => ⟨S16384x1024, .f32⟩
  | .hbm, ⟨13, _⟩ => ⟨S256x1024, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S256x1024, .f32⟩
  | .local _ .vmem, ⟨10, _⟩ => ⟨S512x4096, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8x2048x1024 : Shape := ⟨3, ![8, 2048, 1024]⟩
abbrev S16x16x1024 : Shape := ⟨3, ![16, 16, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S8x2048x4096 : Shape := ⟨3, ![8, 2048, 4096]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16x16x4096 : Shape := ⟨3, ![16, 16, 4096]⟩
abbrev S16x16 : Shape := ⟨2, ![16, 16]⟩
abbrev S16x16x1 : Shape := ⟨3, ![16, 16, 1]⟩
abbrev S16384x1024 : Shape := ⟨2, ![16384, 1024]⟩
abbrev S256x1024 : Shape := ⟨2, ![256, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x16x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1024x4096, .f32⟩
  | .hbm, ⟨50, _⟩ => ⟨S4096x1024, .f32⟩
  | .hbm, ⟨51, _⟩ => ⟨S1024, .f32⟩
  | .hbm, ⟨52, _⟩ => ⟨S1024, .f32⟩
  | .hbm, ⟨53, _⟩ => ⟨S16x16x4096, .f32⟩
  | .hbm, ⟨54, _⟩ => ⟨S_, .f32⟩
  | .hbm, ⟨55, _⟩ => ⟨S16x16x4096, .f32⟩
  | .hbm, ⟨56, _⟩ => ⟨S16x16x4096, .f32⟩
  | .hbm, ⟨57, _⟩ => ⟨S16x16x4096, .f32⟩
  | .hbm, ⟨58, _⟩ => ⟨S_, .f32⟩
  | .hbm, ⟨59, _⟩ => ⟨S16x16x1024, .f32⟩
  | .hbm, ⟨60, _⟩ => ⟨S16x16x1024, .f32⟩
  | .hbm, ⟨61, _⟩ => ⟨S16x16x1024, .f32⟩
  | .hbm, ⟨62, _⟩ => ⟨S16x16x1024, .f32⟩
  | .hbm, ⟨63, _⟩ => ⟨S_, .f32⟩
  | .hbm, ⟨64, _⟩ => ⟨S16x16, .f32⟩
  | .hbm, ⟨65, _⟩ => ⟨S16x16x1, .f32⟩
  | .hbm, ⟨66, _⟩ => ⟨S_, .f32⟩
  | .hbm, ⟨67, _⟩ => ⟨S16x16x1, .f32⟩
  | .hbm, ⟨68, _⟩ => ⟨S16x16x1, .f32⟩
  | .hbm, ⟨69, _⟩ => ⟨S16x16x1024, .f32⟩
  | .hbm, ⟨70, _⟩ => ⟨S16x16x1024, .f32⟩
  | .hbm, ⟨71, _⟩ => ⟨S16x16x1024, .f32⟩
  | .hbm, ⟨72, _⟩ => ⟨S_, .f32⟩
  | .hbm, ⟨73, _⟩ => ⟨S16x16, .f32⟩
  | .hbm, ⟨74, _⟩ => ⟨S16x16x1, .f32⟩
  | .hbm, ⟨75, _⟩ => ⟨S_, .f32⟩
  | .hbm, ⟨76, _⟩ => ⟨S16x16x1, .f32⟩
  | .hbm, ⟨77, _⟩ => ⟨S16x16x1, .f32⟩
  | .hbm, ⟨78, _⟩ => ⟨S16x16x1024, .f32⟩
  | .hbm, ⟨79, _⟩ => ⟨S16x16x1024, .f32⟩
  | .hbm, ⟨80, _⟩ => ⟨S_, .f32⟩
  | .hbm, ⟨81, _⟩ => ⟨S16x16x1, .f32⟩
  | .hbm, ⟨82, _⟩ => ⟨S16x16x1, .f32⟩
  | .hbm, ⟨83, _⟩ => ⟨S16x16x1, .f32⟩
  | .hbm, ⟨84, _⟩ => ⟨S16x16x1024, .f32⟩
  | .hbm, ⟨85, _⟩ => ⟨S16x16x1024, .f32⟩
  | .hbm, ⟨86, _⟩ => ⟨S1x1x1024, .f32⟩
  | .hbm, ⟨87, _⟩ => ⟨S16x16x1024, .f32⟩
  | .hbm, ⟨88, _⟩ => ⟨S16x16x1024, .f32⟩
  | .hbm, ⟨89, _⟩ => ⟨S1x1x1024, .f32⟩
  | .hbm, ⟨90, _⟩ => ⟨S16x16x1024, .f32⟩
  | .hbm, ⟨91, _⟩ => ⟨S16x16x1024, .f32⟩
  | .hbm, ⟨92, _⟩ => ⟨S16384x1024, .f32⟩
  | .hbm, ⟨93, _⟩ => ⟨S256x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call1_cst : Ref sig .tc := ⟨.hbm, 54, rfl⟩
abbrev main_call1_v0 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Proof.Mlp.Run.lean ====
module

public import proofs.«01_k».proof.Proof.Gen.Kernel3Ideal.Frame
public import proofs.«01_k».proof.Proof.Gen.Kernel3Ideal.Skeleton
public import proofs.«01_k».proof.Proof.Gen.Kernel3Ideal.Points
public import Idealize.ShloMosaic.Lib.Claim

@[expose] public section

set_option maxRecDepth 16384

noncomputable section

namespace Cert.Kernel3Ideal.Mlp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 17 = 16 :=
  (fun t => by
    have ht : t.val < 17 := Nat.lt_of_lt_of_eq t.isLt N_0
    have e0 : (grid0.coords t 0).val = t.val / 1 % 17 := Pipeline.Grid.coords_val t 0 (by decide) rfl
    simp only [cond0_1, k0_cond2, e0]
    word_cmp
   : ∀ t : Fin grid0.N, cond0_1 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 live: the case stores into it. -/
theorem liveAt0_6_A : ∀ t : Fin cfg0.N, cond0_0 (grid0.coords t) → ¬cond0_1 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → cond0_1 (grid0.coords t) → cfg0.idle 6 (grid0.coords t) = true := by decide +kernel
/-- At the point of case B the pipeline writes output 6's block back. -/
theorem flush0_6_B : ∀ t : Fin cfg0.N, ¬cond0_0 (grid0.coords t) → cond0_1 (grid0.coords t) → (cfg0.win 6).flush t = true := by decide +kernel
/-- The block of output 6 is not written back right before the point of case B: the two points share it. -/
theorem noFlush0_6_15 : ∀ t : Fin cfg0.N, t.val = 15 → (cfg0.win 6).flush t = false := by decide +kernel
/-- An output is never fetched. -/
theorem noFetch0_6 : ∀ t : Fin cfg0.N, (cfg0.win 6).fetch t = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 6, through which its contents are stated (`View.read_writes_of_cover`: the
    choice does not matter). -/
abbrev VO0_6 : View sig .tc .vmem S1024x1024 .f32 := (Memref.whole cc0_stg6_0 : Memref sig .tc .vmem S1024x1024 .f32).view
/-- One staging buffer of output window 7, through which its contents are stated (`View.read_writes_of_cover`: the
    choice does not matter). -/
abbrev VO0_7 : View sig .tc .vmem S256x1024 .f32 := (Memref.whole cc0_stg7_0 : Memref sig .tc .vmem S256x1024 .f32).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x4096 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 15: 16 of 17), WITH the
    proof that on whole staging memrefs — the inputs' at their contents, the outputs it leaves idle (7: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : cond0_0 i) (hc1 : ¬cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) :
    Σ' (L6 : List (View.Piece (Elt F) S1024x1024 .f32)), Σ' (L7 : List (View.Piece (Elt F) S256x1024 .f32)), { LT0 : List (View.Piece (Elt F) S512x4096 .bf16) //
      ∀ (xi7 : Vec F S256x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LT0)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9) K } := by
  refine ⟨?_, [], ?_, fun xi7 E K => ?run⟩
  case run =>
    simp only [cc0_mlp_eq_skeleton]; unfold cc0_mlp_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken: points 16), WITH the
    proof that on whole staging memrefs — the inputs' at their contents, the outputs it leaves idle (6: no store, the window idle and not written back at the case's points) at contents `xi·` handed back untouched, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : ¬cond0_0 i) (hc1 : cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) :
    Σ' (L6 : List (View.Piece (Elt F) S1024x1024 .f32)), Σ' (L7 : List (View.Piece (Elt F) S256x1024 .f32)), { LT0 : List (View.Piece (Elt F) S512x4096 .bf16) //
      ∀ (xi6 : Vec F S1024x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9) K } := by
  refine ⟨[], ?_, ?_, fun xi6 E K => ?run⟩
  case run =>
    simp only [cc0_mlp_eq_skeleton]; unfold cc0_mlp_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel3Ideal.Mlp

end
-- ==== Proof.Mlp.Frame.lean ====
module

public import proofs.«01_k».proof.Proof.Mlp.Run

@[expose] public section

set_option maxRecDepth 16384

noncomputable section

namespace Cert.Kernel3Ideal.Mlp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 6 tile its block (8 stores of `S128x1024`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : cond0_0 i) (hc1 : ¬cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) (y : S1024x1024.Idx) :
    ∃ pc ∈ (kernelRun0_A c i arg1 harg1 arg2 harg2 arg3 harg3 arg4 harg4 arg5 harg5 arg6 harg6 arg7 harg7 arg8 harg8 arg9 harg9 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4 x5).1 S128x1024.size (by sl_kernel_rfl) y

/-- What case A leaves in output 6's staging buffer: its pieces read back over junk. -/
def out0_A_6 (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : cond0_0 i) (hc1 : ¬cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) : Vec F S1024x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : cond0_0 i) (hc1 : ¬cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) : Vec F S256x1024 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 hc1 x0 x1 x2 x3 x4 x5).2.1)

/-- Case B's pieces for output 7 tile its block (2 stores of `S128x1024`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : ¬cond0_0 i) (hc1 : cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) (y : S256x1024.Idx) :
    ∃ pc ∈ (kernelRun0_B c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 x5).2.1 S128x1024.size (by sl_kernel_rfl) y

/-- What case B leaves in output 7's staging buffer: its pieces read back over junk. -/
def out0_B_7 (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : ¬cond0_0 i) (hc1 : cond0_1 i)
    (x0 : Vec F S1024x1024 .f32) (x1 : Vec F S256x1024 .f32) (x2 : Vec F S1024x4096 .bf16) (x3 : Vec F S4096x1024 .bf16) (x4 : Vec F S1x1024 .f32) (x5 : Vec F S1x1024 .f32) : Vec F S256x1024 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 hc1 x0 x1 x2 x3 x4 x5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .f32 × Vec F S256x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) < 16 then
      if h1 : (n + 1) % 17 = 16 then
        False.elim (by have hN : n + 1 < 17 := lt_of_lt_of_eq hn (show cfg0.N = 17 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 17 = 16 then
        ((outsAt0 c n (by omega)).1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 17 := lt_of_lt_of_eq hn (show cfg0.N = 17 from N_0); omega)

/-- `outsAt0` at a point of case A: that case's contents. -/
theorem outsAt0_A (c : Dev nD) (t : Fin cfg0.N) (h0 : t.val < 16) (h1 : ¬t.val % 17 = 16) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val < 16) (h1 : t.val % 17 = 16) :
    outsAt0 m c t.val t.isLt = ((outsAt0 m c (t.val - 1) (by have := t.isLt; omega)).1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)) := by
  obtain ⟨n, hn⟩ := t
  cases n with
  | zero => exact (by exfalso; (try dsimp only at h0); exact by omega)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At the point of case B output 6's buffer still holds what the point before left in it: the block was not written back between. -/
theorem before0_6_B (c : Dev nD) (t : Fin cfg0.N) (h1 : t.val % 17 = 16) (d) :
    (dats m 0 c).before 6 t d = (outsAt0 m c (t.val - 1) (by have := t.isLt; omega)).1 := by
  have hN : t.val < 17 := lt_of_lt_of_eq t.isLt (show cfg0.N = 17 from N_0)
  have ht : t.val ≠ 0 := by omega
  rw [Dat.before_of_pos _ _ _ ht (noFetch0_6 t), noFlush0_6_15 ⟨t.val - 1, _⟩ (by show t.val - 1 = 15; omega), if_neg Bool.false_ne_true]
  unfold Dat.left
  rw [liveAt0_6_A ⟨t.val - 1, _⟩ ((hcond0_0 _).mpr (by show t.val - 1 < 16; omega)) (fun h => by have := (hcond0_1 _).mp h; dsimp only at this; omega)]
  exact after0_6 m c ⟨t.val - 1, _⟩

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 17 := lt_of_lt_of_eq t.isLt (show cfg0.N = 17 from N_0)
  by_cases h0 : t.val < 16
  · by_cases h1 : t.val % 17 = 16
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h))], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold out0_A_6; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
  · by_cases h1 : t.val % 17 = 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [idleAt0_6_B t (fun h => h0 ((hcond0_0 t).mp h)) ((hcond0_1 t).mpr h1), flush0_6_B t (fun h => h0 ((hcond0_0 t).mp h)) ((hcond0_1 t).mpr h1)], after0_6]
      simp only [before0_6_B m c t h1]
      rw [show (dats m 0 c).leavesExact 7 t = owns (c : Thread nD τ) (ms0_7 t) fullShare ((dats m 0 c).after 7 t) from by
      unfold Dat.leavesExact; rw [liveAt0_7_B t (fun h => h0 ((hcond0_0 t).mp h)) ((hcond0_1 t).mpr h1)], after0_7]
      rw [outsAt0_B m c t h0 h1]
      unfold out0_B_7; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%fT0, HS0⟩⟩
      isplitl [HS0 Hg]
      · isplitl [HS0]
        · iexists _; unfold owns; iexists _; isplitr
          swap; · iexact HS0
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Mlp

end
-- ==== Proof.Mlp.Row.lean ====
module

public import proofs.«01_k».proof.Proof.Mlp.Frame
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel3Ideal.Mlp

open Cert.Kernel3Ideal Cert.Kernel3Ideal.Gen
open Idealize.ShloMosaic Idealize.ShloMosaic.TcCoe Idealize.SL.Sem
open Idealize.ShloMosaic.Pipeline (Dat)

/-- One row of a layer normalisation over 1024 numbers, at coordinate `j`: the row minus its mean, times the reciprocal square root of
    its variance plus epsilon, scaled and shifted. -/
def lnAt (y w b : Fin 1024 → EReal) (j : Fin 1024) : EReal :=
  (y j - Ideal.div (∑ k, y k) (Ideal.ofBits .f32 0x44800000#32))
    * Ideal.rsqrt (Ideal.div (∑ k, (y k - Ideal.div (∑ k, y k) (Ideal.ofBits .f32 0x44800000#32)) * (y k - Ideal.div (∑ k, y k) (Ideal.ofBits .f32 0x44800000#32)))
        (Ideal.ofBits .f32 0x44800000#32) + Ideal.ofBits .f32 0x3727C5AC#32) * w j + b j

/-- The hidden layer of one row: the up projection, cut at zero and squared. -/
def hidAt (x : Fin 1024 → EReal) (wu : Fin 1024 → Fin 4096 → EReal) (f : Fin 4096) : EReal :=
  max (∑ k, x k * wu k f) 0 * max (∑ k, x k * wu k f) 0

/-- One row before its normalisation: the residual stream scaled by alpha, plus the down projection of the hidden layer. -/
def resAt (x : Fin 1024 → EReal) (wu : Fin 1024 → Fin 4096 → EReal) (wd : Fin 4096 → Fin 1024 → EReal) (j : Fin 1024) : EReal :=
  Ideal.ofBits .f32 0x3F9837F0#32 * x j + ∑ f, hidAt x wu f * wd f j

/-- One row of the block: the normalisation of `resAt`. -/
def rowAt (x : Fin 1024 → EReal) (wu : Fin 1024 → Fin 4096 → EReal) (wd : Fin 4096 → Fin 1024 → EReal) (w b : Fin 1024 → EReal) (j : Fin 1024) : EReal :=
  lnAt (resAt x wu wd) w b j

/-- The prompt's result rows as the block of the rows of its input. -/
def promptRows (x : FVec Ideal S8x2048x1024 .f32) (wu : FVec Ideal S1x1024x4096 .f32) (wd : FVec Ideal S1x4096x1024 .f32) (w b : FVec Ideal S1x1024 .f32) : FVec Ideal S16384x1024 .f32 := fun j =>
  rowAt (fun k => x (ix3 (⟨(j 0).val / 2048, by have h : (j 0).val < 16384 := (j 0).isLt; omega⟩ : Fin 8) (⟨(j 0).val % 2048, by omega⟩ : Fin 2048) k))
    (fun k f => wu (ix3 0 k f)) (fun f i => wd (ix3 0 f i)) (fun i => w (ix2 0 i)) (fun i => b (ix2 0 i)) (j 1)

/-- The samples' result rows as the block of the rows of their input. -/
def sampleRows (x : FVec Ideal S16x16x1024 .f32) (wu : FVec Ideal S1x1024x4096 .f32) (wd : FVec Ideal S1x4096x1024 .f32) (w b : FVec Ideal S1x1024 .f32) : FVec Ideal S256x1024 .f32 := fun j =>
  rowAt (fun k => x (ix3 (⟨(j 0).val / 16, by have h : (j 0).val < 256 := (j 0).isLt; omega⟩ : Fin 16) (⟨(j 0).val % 16, by omega⟩ : Fin 16) k))
    (fun k f => wu (ix3 0 k f)) (fun f i => wd (ix3 0 f i)) (fun i => w (ix2 0 i)) (fun i => b (ix2 0 i)) (j 1)

/-- A load of 128 rows out of the 256 rows just stored into the hidden scratch reads the stored rows. -/
theorem readCov_rows {sp : Space} (v : View sig .tc sp S512x4096 .bf16) (o : ℕ) (inb : ∀ a, (![0, 0] : Fin 2 → ℕ) a + (![256, 4096] : Fin 2 → ℕ) a ≤ S512x4096.size a)
    (inb' : ∀ a, (![o, 0] : Fin 2 → ℕ) a + (![128, 4096] : Fin 2 → ℕ) a ≤ S512x4096.size a) (Z : FVec Ideal S256x4096 .bf16) (L : List (View.Piece (Elt Ideal) S512x4096 .bf16)) (ho : o + 128 ≤ 256) :
    v.readCov ((⟨Rect.unit ![0, 0] ![256, 4096] inb, Z⟩ : View.Piece (Elt Ideal) S512x4096 .bf16) :: L) (Rect.unit (s := S512x4096) ![o, 0] ![128, 4096] inb').toLoadRect
      = (fun j : S128x4096.Idx => Z (ix2 (⟨o + (j 0).val, by have h : (j 0).val < 128 := (j 0).isLt; omega⟩ : Fin 256) (j 1))) := by
  rw [View.readCov_eq_canon']
  funext j
  have h := View.canon_cons_emb (Val := Elt Ideal) (e := .bf16) (Rect.unit (s := S512x4096) ![0, 0] ![256, 4096] inb) Z L
    (ix2 (⟨o + (j 0).val, by have h : (j 0).val < 128 := (j 0).isLt; omega⟩ : Fin 256) (j 1))
  refine Eq.trans (congrArg _ ?_) h
  funext a
  refine Fin.ext ?_
  match a with
  | ⟨0, _⟩ => show o + 1 * (j 0).val = 0 + 1 * (o + (j 0).val); omega
  | ⟨1, _⟩ => show 0 + 1 * (j 1).val = 0 + 1 * (j 1).val; omega

/-- What a prompt point leaves in the output buffer: every row is the block of the input row. -/
theorem out6_at (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : cond0_0 i) (hc1 : ¬ cond0_1 i)
    (x0 : Vec Ideal S1024x1024 .f32) (x1 : Vec Ideal S256x1024 .f32) (x2 : Vec Ideal S1024x4096 .bf16) (x3 : Vec Ideal S4096x1024 .bf16) (x4 : Vec Ideal S1x1024 .f32) (x5 : Vec Ideal S1x1024 .f32) (y0 y1 : Fin 1024) :
    out0_A_6 c i arg1 harg1 arg2 harg2 arg3 harg3 arg4 harg4 arg5 harg5 arg6 harg6 arg7 harg7 arg8 harg8 arg9 harg9 hc0 hc1 x0 x1 x2 x3 x4 x5 (ix2 y0 y1)
      = rowAt (fun k => x0 (ix2 y0 k)) (fun k f => x2 (ix2 k f)) (fun f j => x3 (ix2 f j)) (fun j => x4 (ix2 0 j)) (fun j => x5 (ix2 0 j)) y1 := by
  frame_out
  simp (disch := decide) only [View.readCov_fill]
  canon_tiles x h
  all_goals
    idx_vars x
    replace h0 : y0.val = _ := h0
    replace h1 : y1.val = _ := h1
    obtain rfl := Fin.ext h1
    simp only [rowAt, lnAt, resAt, hidAt]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18]
    simp only [← Nat.add_assoc, Nat.reduceAdd, ← h0]

/-- What the sample point leaves in its output buffer: every row is the block of the input row. -/
theorem out7_at (c : Dev nD) (i : grid0.Coords) (arg1 : Memref sig .tc .vmem S1024x1024 .f32) (harg1 : arg1.IsWhole) (arg2 : Memref sig .tc .vmem S256x1024 .f32) (harg2 : arg2.IsWhole) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S256x1024 .f32) (harg8 : arg8.IsWhole) (arg9 : Memref sig .tc .vmem S512x4096 .bf16) (harg9 : arg9.IsWhole) (hc0 : ¬ cond0_0 i) (hc1 : cond0_1 i)
    (x0 : Vec Ideal S1024x1024 .f32) (x1 : Vec Ideal S256x1024 .f32) (x2 : Vec Ideal S1024x4096 .bf16) (x3 : Vec Ideal S4096x1024 .bf16) (x4 : Vec Ideal S1x1024 .f32) (x5 : Vec Ideal S1x1024 .f32) (y0 : Fin 256) (y1 : Fin 1024) :
    out0_B_7 c i arg1 harg1 arg2 harg2 arg3 harg3 arg4 harg4 arg5 harg5 arg6 harg6 arg7 harg7 arg8 harg8 arg9 harg9 hc0 hc1 x0 x1 x2 x3 x4 x5 (ix2 y0 y1)
      = rowAt (fun k => x1 (ix2 y0 k)) (fun k f => x2 (ix2 k f)) (fun f j => x3 (ix2 f j)) (fun j => x4 (ix2 0 j)) (fun j => x5 (ix2 0 j)) y1 := by
  frame_out
  simp (disch := omega) only [readCov_rows]
  canon_tiles x h
  all_goals
    idx_vars x
    replace h0 : y0.val = _ := h0
    replace h1 : y1.val = _ := h1
    obtain rfl := Fin.ext h1
    simp only [rowAt, lnAt, resAt, hidAt]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
    simp only [← Nat.add_assoc, Nat.reduceAdd, ← h0]

end Cert.Kernel3Ideal.Mlp

end
-- ==== Proof.Mlp.Final.lean ====
module

public import proofs.«01_k».proof.Proof.Mlp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel3Ideal.Mlp

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Equal rows and weights give equal block rows. -/
theorem rowAt_congr {x x' : Fin 1024 → EReal} {wu wu' : Fin 1024 → Fin 4096 → EReal} {wd wd' : Fin 4096 → Fin 1024 → EReal} {w w' b b' : Fin 1024 → EReal} {j j' : Fin 1024}
    (hx : ∀ k, x k = x' k) (hu : ∀ k f, wu k f = wu' k f) (hd : ∀ f i, wd f i = wd' f i) (hw : ∀ i, w i = w' i) (hb : ∀ i, b i = b' i) (hj : j = j') :
    rowAt x wu wd w b j = rowAt x' wu' wd' w' b' j' := by
  rw [show x = x' from funext hx, show wu = wu' from funext fun k => funext (hu k), show wd = wd' from funext fun f => funext (hd f), show w = w' from funext hw, show b = b' from funext hb, hj]

/-- The windows' block indices at every point. -/
theorem idx : ∀ t : Fin cfg0.N, win0_0.index t = ![min t.val 15, 0] ∧ win0_1.index t = ![0, 0] ∧ win0_2.index t = ![0, 0] ∧ win0_3.index t = ![0, 0]
    ∧ win0_4.index t = ![0, 0] ∧ win0_5.index t = ![0, 0] ∧ win0_6.index t = ![min t.val 15, 0] ∧ win0_7.index t = ![0, 0] :=
  (by decide +kernel : ∀ t : Fin grid0.N, _)

/-- A prompt point's input block is 1024 rows of the prompt. -/
theorem blk0 (c : Dev nD) (t : Fin cfg0.N) (r k : Fin 1024) : iblk m c 0 t (ix2 r k)
    = m ((c : Thread nD τ).loc main_arg0) (ix3 (⟨(min t.val 15 * 1024 + r.val) / 2048, by omega⟩ : Fin 8) (⟨(min t.val 15 * 1024 + r.val) % 2048, by omega⟩ : Fin 2048) k) := by
  blk_simp [iblk, idx t]
  entry_read
  pointwise
  blk_ext [idx t]
/-- The sample point's input block is all samples' rows. -/
theorem blk1 (c : Dev nD) (t : Fin cfg0.N) (r : Fin 256) (k : Fin 1024) : iblk m c 1 t (ix2 r k)
    = m ((c : Thread nD τ).loc main_arg1) (ix3 (⟨r.val / 16, by omega⟩ : Fin 16) (⟨r.val % 16, by omega⟩ : Fin 16) k) := by
  blk_simp [iblk, idx t]
  entry_read
  pointwise
  blk_ext [idx t]
/-- Every point's up projection is the whole array. -/
theorem blk2 (c : Dev nD) (t : Fin cfg0.N) (k : Fin 1024) (f : Fin 4096) : iblk m c 2 t (ix2 k f) = m ((c : Thread nD τ).loc main_arg2) (ix3 0 k f) := by
  blk_simp [iblk, idx t]
  entry_read
  pointwise
  blk_ext [idx t]
/-- Every point's down projection is the whole array. -/
theorem blk3 (c : Dev nD) (t : Fin cfg0.N) (f : Fin 4096) (i : Fin 1024) : iblk m c 3 t (ix2 f i) = m ((c : Thread nD τ).loc main_arg3) (ix3 0 f i) := by
  blk_simp [iblk, idx t]
  entry_read
  pointwise
  blk_ext [idx t]
/-- Every point's normalisation scale is the whole array. -/
theorem blk4 (c : Dev nD) (t : Fin cfg0.N) (i : Fin 1024) : iblk m c 4 t (ix2 0 i) = m ((c : Thread nD τ).loc main_arg4) (ix2 0 i) := by
  blk_ext [iblk, V, idx t]
/-- Every point's normalisation shift is the whole array. -/
theorem blk5 (c : Dev nD) (t : Fin cfg0.N) (i : Fin 1024) : iblk m c 5 t (ix2 0 i) = m ((c : Thread nD τ).loc main_arg5) (ix2 0 i) := by
  blk_ext [iblk, V, idx t]

/-- What every point but the last leaves in the prompt's output buffer, at a row and a column. -/
theorem left6 (c : Dev nD) (t : Fin cfg0.N) (ht : t.val < 16) (y0 y1 : Fin 1024) : (outsAt0 m c t.val t.isLt).1 (ix2 y0 y1)
    = promptRows (m ((c : Thread nD τ).loc main_arg0)) (m ((c : Thread nD τ).loc main_arg2)) (m ((c : Thread nD τ).loc main_arg3)) (m ((c : Thread nD τ).loc main_arg4)) (m ((c : Thread nD τ).loc main_arg5))
      (ix2 (⟨min t.val 15 * 1024 + y0.val, by omega⟩ : Fin 16384) y1) := by
  simp only [outsAt0_A m c t ht (by omega)]
  rw [out6_at]
  exact rowAt_congr (blk0 m c t y0) (blk2 m c t) (blk3 m c t) (blk4 m c t) (blk5 m c t) rfl

/-- The prompt's output array after the run. -/
theorem final6 (c : Dev nD) : (dats m 0 c).arrAt 6 (cfgs 0).N
    = promptRows (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  have hN : t.val < 17 := lt_of_lt_of_eq t.isLt (show cfg0.N = 17 from N_0)
  have key : (outsAt0 m c t.val t.isLt).1 (ix2 y0 y1)
      = promptRows (m ((c : Thread nD τ).loc main_arg0)) (m ((c : Thread nD τ).loc main_arg2)) (m ((c : Thread nD τ).loc main_arg3)) (m ((c : Thread nD τ).loc main_arg4)) (m ((c : Thread nD τ).loc main_arg5))
        (ix2 (⟨min t.val 15 * 1024 + y0.val, by omega⟩ : Fin 16384) y1) := by
    by_cases ht : t.val < 16
    · exact left6 m c t ht y0 y1
    · simp only [outsAt0_B m c t ht (show t.val % 17 = 16 by omega)]
      refine (left6 m c ⟨t.val - 1, lt_of_le_of_lt (Nat.sub_le _ _) t.isLt⟩ (by show t.val - 1 < 16; omega) y0 y1).trans (congrArg _ (congrArg (fun r => ix2 r y1) (Fin.ext ?_)))
      show min (t.val - 1) 15 * 1024 + y0.val = min t.val 15 * 1024 + y0.val
      omega
  refine key.trans (congrArg _ ?_)
  blk_ext [idx t]

/-- The samples' output array after the run. -/
theorem final7 (c : Dev nD) : (dats m 0 c).arrAt 7 (cfgs 0).N
    = sampleRows (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  have ht : t.val = 16 := (by decide +kernel : ∀ t : Fin cfg0.N, (cfg0.win 7).flush t = true → t.val = 16) t hf
  have key : (outsAt0 m c t.val t.isLt).2 (ix2 y0 y1)
      = sampleRows (m ((c : Thread nD τ).loc main_arg1)) (m ((c : Thread nD τ).loc main_arg2)) (m ((c : Thread nD τ).loc main_arg3)) (m ((c : Thread nD τ).loc main_arg4)) (m ((c : Thread nD τ).loc main_arg5))
        (ix2 y0 y1) := by
    simp only [outsAt0_B m c t (show ¬ t.val < 16 by omega) (show t.val % 17 = 16 by omega)]
    rw [out7_at]
    exact rowAt_congr (blk1 m c t y0) (blk2 m c t) (blk3 m c t) (blk4 m c t) (blk5 m c t) rfl
  refine key.trans (congrArg _ ?_)
  blk_ext [idx t]

/-- The run with its two results named and its arguments unchanged. -/
theorem run_rows : θ_run defs (onTc (τ := τ) (main (F := Ideal))) ⟨m, fun _ => 0, ρ⟩ fun r => ∀ c : Dev nD,
      r.2.mem ((c : Thread nD τ).loc main_v6_0) = promptRows (m ((c : Thread nD τ).loc main_arg0)) (m ((c : Thread nD τ).loc main_arg2)) (m ((c : Thread nD τ).loc main_arg3)) (m ((c : Thread nD τ).loc main_arg4)) (m ((c : Thread nD τ).loc main_arg5))
      ∧ r.2.mem ((c : Thread nD τ).loc main_v6_1) = sampleRows (m ((c : Thread nD τ).loc main_arg1)) (m ((c : Thread nD τ).loc main_arg2)) (m ((c : Thread nD τ).loc main_arg3)) (m ((c : Thread nD τ).loc main_arg4)) (m ((c : Thread nD τ).loc main_arg5)) :=
  (θ_run defs _ _).mono (fun r h c => ⟨((h c).1 6).trans (final6 m c), ((h c).1 7).trans (final7 m c)⟩) (run_main m ρ)

end Cert.Kernel3Ideal.Mlp

end
-- ==== Proof.Mlp.Ref.lean ====
module

public import proofs.«01_k».proof.Proof.Mlp.Row
public import proofs.«01_k».proof.Proof.Gen.Reference3Ideal.Run
public import proofs.«01_k».proof.Proof.Gen.Reference3Ideal.Read
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel3Ideal.Mlp

open Cert.Kernel3Ideal.Gen Cert.Reference3Ideal
open Idealize.ShloMosaic Idealize.ShloMosaic.TcCoe Idealize.SL.Sem
open Idealize.ShloMosaic.Pipeline (Dat)

/-- The hidden layer of the reference's prompt rows. -/
theorem hid_prompt (x : FVec Ideal S8x2048x1024 .f32) (wu : FVec Ideal S1x1024x4096 .f32) (b : Fin 8) (t : Fin 2048) (f : Fin 4096) :
    Read.val_main_v6 (F := Ideal) x wu (ix3 b t f) = hidAt (fun k => x (ix3 b t k)) (fun k f => wu (ix3 0 k f)) f := by
  simp only [hidAt]
  pointwise [Read.val_main_v6, Read.val_main_v5, Read.val_main_v4, Read.val_main_v0, Read.val_main_call0_v0, Read.val_main_call0_cst]

/-- The reference's prompt rows before their normalisation. -/
theorem res_prompt (x : FVec Ideal S8x2048x1024 .f32) (wu : FVec Ideal S1x1024x4096 .f32) (wd : FVec Ideal S1x4096x1024 .f32) (b : Fin 8) (t : Fin 2048) (j : Fin 1024) :
    Read.val_main_v10 (F := Ideal) x wu wd (ix3 b t j) = resAt (fun k => x (ix3 b t k)) (fun k f => wu (ix3 0 k f)) (fun f i => wd (ix3 0 f i)) j := by
  simp only [resAt]
  pointwise [Read.val_main_v10, Read.val_main_v9, Read.val_main_v8, Read.val_main_v7, Read.val_main_cst, Read.val_main_v1, hid_prompt]

/-- The mean of one of the reference's prompt rows. -/
theorem mean_prompt (x : FVec Ideal S8x2048x1024 .f32) (wu : FVec Ideal S1x1024x4096 .f32) (wd : FVec Ideal S1x4096x1024 .f32) (b : Fin 8) (t : Fin 2048) :
    Read.val_main_v14 (F := Ideal) x wu wd (ix3 b t 0) = Ideal.div (∑ k, resAt (fun k => x (ix3 b t k)) (fun k f => wu (ix3 0 k f)) (fun f i => wd (ix3 0 f i)) k) (Ideal.ofBits .f32 0x44800000#32) := by
  pointwise [Read.val_main_v14, Read.val_main_v13, Read.val_main_v12, Read.val_main_v11, Read.val_main_cst_0, Read.val_main_cst_1, res_prompt]

/-- One of the reference's prompt rows, normalised. -/
theorem norm_prompt (x : FVec Ideal S8x2048x1024 .f32) (wu : FVec Ideal S1x1024x4096 .f32) (wd : FVec Ideal S1x4096x1024 .f32) (w b' : FVec Ideal S1x1024 .f32) (b : Fin 8) (t : Fin 2048) (j : Fin 1024) :
    Read.val_main_v34 (F := Ideal) x wu wd w b' (ix3 b t j) = rowAt (fun k => x (ix3 b t k)) (fun k f => wu (ix3 0 k f)) (fun f i => wd (ix3 0 f i)) (fun i => w (ix2 0 i)) (fun i => b' (ix2 0 i)) j := by
  simp only [rowAt, lnAt]
  pointwise [Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v3, Read.val_main_v2, Read.val_main_cst_2, Read.val_main_cst_3, Read.val_main_cst_4, res_prompt, mean_prompt]

/-- The reference's first result is the block of the prompt rows. -/
theorem ref_prompt (m : (ℓ : Loc Cert.Reference3Ideal.nD Cert.Reference3Ideal.τ Cert.Reference3Ideal.sig) → Buf (Elt Ideal) ℓ) (c : Dev Cert.Reference3Ideal.nD) :
    Cert.Reference3Ideal.Value.res_main_v70 (F := Ideal) m c = promptRows (m ((c : Thread Cert.Reference3Ideal.nD Cert.Reference3Ideal.τ).loc Cert.Reference3Ideal.main_arg0)) (m ((c : Thread Cert.Reference3Ideal.nD Cert.Reference3Ideal.τ).loc Cert.Reference3Ideal.main_arg2)) (m ((c : Thread Cert.Reference3Ideal.nD Cert.Reference3Ideal.τ).loc Cert.Reference3Ideal.main_arg3)) (m ((c : Thread Cert.Reference3Ideal.nD Cert.Reference3Ideal.τ).loc Cert.Reference3Ideal.main_arg4)) (m ((c : Thread Cert.Reference3Ideal.nD Cert.Reference3Ideal.τ).loc Cert.Reference3Ideal.main_arg5)) := by
  rw [Read.val_main_v70_eq]
  funext j
  rw [Read.val_main_v70_apply]
  idx_vars j
  have e : Read.idx_main_v70 (ix2 j0 j1) = ix3 (⟨j0.val / 2048, by omega⟩ : Fin 8) (⟨j0.val % 2048, by omega⟩ : Fin 2048) j1 := by
    funext a
    match a with
    | ⟨0, _⟩ => exact Fin.ext (by show (j0.val * 1024 + j1.val) / 2097152 = j0.val / 2048; omega)
    | ⟨1, _⟩ => exact Fin.ext (by show (j0.val * 1024 + j1.val) / 1024 % 2048 = j0.val % 2048; omega)
    | ⟨2, _⟩ => exact Fin.ext (by show (j0.val * 1024 + j1.val) % 1024 = j1.val; omega)
  rw [e, norm_prompt]
  rfl

/-- The hidden layer of the reference's sample rows. -/
theorem hid_sample (x : FVec Ideal S16x16x1024 .f32) (wu : FVec Ideal S1x1024x4096 .f32) (b : Fin 16) (t : Fin 16) (f : Fin 4096) :
    Read.val_main_v41 (F := Ideal) x wu (ix3 b t f) = hidAt (fun k => x (ix3 b t k)) (fun k f => wu (ix3 0 k f)) f := by
  simp only [hidAt]
  pointwise [Read.val_main_v41, Read.val_main_v40, Read.val_main_v39, Read.val_main_v35, Read.val_main_call1_v0, Read.val_main_call1_cst]

/-- The reference's sample rows before their normalisation. -/
theorem res_sample (x : FVec Ideal S16x16x1024 .f32) (wu : FVec Ideal S1x1024x4096 .f32) (wd : FVec Ideal S1x4096x1024 .f32) (b : Fin 16) (t : Fin 16) (j : Fin 1024) :
    Read.val_main_v45 (F := Ideal) x wu wd (ix3 b t j) = resAt (fun k => x (ix3 b t k)) (fun k f => wu (ix3 0 k f)) (fun f i => wd (ix3 0 f i)) j := by
  simp only [resAt]
  pointwise [Read.val_main_v45, Read.val_main_v44, Read.val_main_v43, Read.val_main_v42, Read.val_main_cst_5, Read.val_main_v36, hid_sample]

/-- The mean of one of the reference's sample rows. -/
theorem mean_sample (x : FVec Ideal S16x16x1024 .f32) (wu : FVec Ideal S1x1024x4096 .f32) (wd : FVec Ideal S1x4096x1024 .f32) (b : Fin 16) (t : Fin 16) :
    Read.val_main_v49 (F := Ideal) x wu wd (ix3 b t 0) = Ideal.div (∑ k, resAt (fun k => x (ix3 b t k)) (fun k f => wu (ix3 0 k f)) (fun f i => wd (ix3 0 f i)) k) (Ideal.ofBits .f32 0x44800000#32) := by
  pointwise [Read.val_main_v49, Read.val_main_v48, Read.val_main_v47, Read.val_main_v46, Read.val_main_cst_6, Read.val_main_cst_7, res_sample]

/-- One of the reference's sample rows, normalised. -/
theorem norm_sample (x : FVec Ideal S16x16x1024 .f32) (wu : FVec Ideal S1x1024x4096 .f32) (wd : FVec Ideal S1x4096x1024 .f32) (w b' : FVec Ideal S1x1024 .f32) (b : Fin 16) (t : Fin 16) (j : Fin 1024) :
    Read.val_main_v69 (F := Ideal) x wu wd w b' (ix3 b t j) = rowAt (fun k => x (ix3 b t k)) (fun k f => wu (ix3 0 k f)) (fun f i => wd (ix3 0 f i)) (fun i => w (ix2 0 i)) (fun i => b' (ix2 0 i)) j := by
  simp only [rowAt, lnAt]
  pointwise [Read.val_main_v69, Read.val_main_v68, Read.val_main_v67, Read.val_main_v66, Read.val_main_v65, Read.val_main_v64, Read.val_main_v63, Read.val_main_v62, Read.val_main_v61, Read.val_main_v60, Read.val_main_v59, Read.val_main_v58, Read.val_main_v57, Read.val_main_v56, Read.val_main_v55, Read.val_main_v54, Read.val_main_v53, Read.val_main_v52, Read.val_main_v51, Read.val_main_v50, Read.val_main_v38, Read.val_main_v37, Read.val_main_cst_8, Read.val_main_cst_9, Read.val_main_cst_10, res_sample, mean_sample]

/-- The reference's second result is the block of the sample rows. -/
theorem ref_sample (m : (ℓ : Loc Cert.Reference3Ideal.nD Cert.Reference3Ideal.τ Cert.Reference3Ideal.sig) → Buf (Elt Ideal) ℓ) (c : Dev Cert.Reference3Ideal.nD) :
    Cert.Reference3Ideal.Value.res_main_v71 (F := Ideal) m c = sampleRows (m ((c : Thread Cert.Reference3Ideal.nD Cert.Reference3Ideal.τ).loc Cert.Reference3Ideal.main_arg1)) (m ((c : Thread Cert.Reference3Ideal.nD Cert.Reference3Ideal.τ).loc Cert.Reference3Ideal.main_arg2)) (m ((c : Thread Cert.Reference3Ideal.nD Cert.Reference3Ideal.τ).loc Cert.Reference3Ideal.main_arg3)) (m ((c : Thread Cert.Reference3Ideal.nD Cert.Reference3Ideal.τ).loc Cert.Reference3Ideal.main_arg4)) (m ((c : Thread Cert.Reference3Ideal.nD Cert.Reference3Ideal.τ).loc Cert.Reference3Ideal.main_arg5)) := by
  rw [Read.val_main_v71_eq]
  funext j
  rw [Read.val_main_v71_apply]
  idx_vars j
  have e : Read.idx_main_v71 (ix2 j0 j1) = ix3 (⟨j0.val / 16, by omega⟩ : Fin 16) (⟨j0.val % 16, by omega⟩ : Fin 16) j1 := by
    funext a
    match a with
    | ⟨0, _⟩ => exact Fin.ext (by show (j0.val * 1024 + j1.val) / 16384 = j0.val / 16; omega)
    | ⟨1, _⟩ => exact Fin.ext (by show (j0.val * 1024 + j1.val) / 1024 % 16 = j0.val % 16; omega)
    | ⟨2, _⟩ => exact Fin.ext (by show (j0.val * 1024 + j1.val) % 1024 = j1.val; omega)
  rw [e, norm_sample]
  rfl

end Cert.Kernel3Ideal.Mlp

end
-- ==== Proof.Smp.Run.lean ====
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Claim

@[expose] public section

set_option maxRecDepth 16384

noncomputable section

namespace Cert.Kernel2Ideal.Smp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [cond0_0, k0_cond1, e0]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [cond0_1, k0_cond2, e0]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 16 is never idle (an output stored at every point, under no condition). -/
theorem liveAt0_16 : ∀ t : Fin cfg0.N, cfg0.idle 16 (grid0.coords t) = false := fun _ => rfl
/-- Window 17 is never idle (an output stored at every point, under no condition). -/
theorem liveAt0_17 : ∀ t : Fin cfg0.N, cfg0.idle 17 (grid0.coords t) = false := fun _ => rfl
/-- Window 18 is never idle (an output stored at every point, under no condition). -/
theorem liveAt0_18 : ∀ t : Fin cfg0.N, cfg0.idle 18 (grid0.coords t) = false := fun _ => rfl
/-! ## The kernel body on any staging memrefs: a subtype the run finds -/

/-- One staging buffer of output window 16, through which its contents are stated (`View.read_writes_of_cover`: the
    choice does not matter). -/
abbrev VO0_16 : View sig .tc .vmem S8x16x2x64 .f32 := (Memref.whole cc0_stg16_0 : Memref sig .tc .vmem S8x16x2x64 .f32).view
/-- One staging buffer of output window 17, through which its contents are stated (`View.read_writes_of_cover`: the
    choice does not matter). -/
abbrev VO0_17 : View sig .tc .vmem S8x16x2x64 .f32 := (Memref.whole cc0_stg17_0 : Memref sig .tc .vmem S8x16x2x64 .f32).view
/-- One staging buffer of output window 18, through which its contents are stated (`View.read_writes_of_cover`: the
    choice does not matter). -/
abbrev VO0_18 : View sig .tc .vmem S8x4x128x128 .f32 := (Memref.whole cc0_stg18_0 : Memref sig .tc .vmem S8x4x128x128 .f32).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x2x64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x4x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2816 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x16x2x64 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x16x2x64 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x4x128x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x2816 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x1024 .bf16 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S256x2816 .f32 := Memref.whole cc0_scratch0
abbrev scM0_1 : Memref sig .tc .vmem S256x1024 .bf16 := Memref.whole cc0_scratch1
/-- The scratch `arg22` the kernel carries between points, as a view: what it holds is stated through it. -/
abbrev VS0_0 : View sig .tc .vmem S256x2816 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Smp

end
-- ==== Proof.Smp.RunA.lean ====
module

public import proofs.«01_k».proof.Proof.Smp.Run

@[expose] public section

set_option maxRecDepth 16384

noncomputable section

namespace Cert.Kernel2Ideal.Smp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3036000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (15, 19, 20) at anything, handed back at some contents nothing names. -/
noncomputable def kernelRun0_A (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) :
    Σ' (L16 : List (View.Piece (Elt F) S8x16x2x64 .f32)), Σ' (L17 : List (View.Piece (Elt F) S8x16x2x64 .f32)), Σ' (L18 : List (View.Piece (Elt F) S8x4x128x128 .f32)), { LS0 : List (View.Piece (Elt F) S256x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ (∃ f, arg22.view.loc (c : Thread nD τ) ↦[arg22.view.set]{fullShare} arg22.view.writes (Elt F) f LS0) ∗ (∃ d, owns (c : Thread nD τ) arg23 fullShare d)) -∗ K ⟨⟩))
          ⊢ wp frame (wpE (defs₀ (F := F)) Variants.none c none) E (cc0_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0_sample_mixer_eq_skeleton]; unfold cc0_sample_mixer_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]; · iexists _; iexact H16
    isplitl [H17]; · iexists _; iexact H17
    isplitl [H18]; · iexists _; iexact H18
    isplitl [H19]
    · iexists _, _; isplitr; swap; · iexact H19
      ipureintro; rfl
    isplitl [H20]
    · iexists _, _; isplitr; swap; · iexact H20
      ipureintro; rfl
    isplitl [HS0]; · iexists _; iexact HS0
    iexists _, _; isplitr; swap; · iexact HS1
    ipureintro; rfl

end Cert.Kernel2Ideal.Smp

end
-- ==== Proof.Smp.RunB.lean ====
module

public import proofs.«01_k».proof.Proof.Smp.Run

@[expose] public section

set_option maxRecDepth 16384

noncomputable section

namespace Cert.Kernel2Ideal.Smp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3016000 in
/-- What the body's stores leave in each output's staging memref, as pieces (last first) IN CASE B (`scf.if` 0 not taken, `scf.if` 1 taken: points 1), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (15, 19, 20) at anything, handed back at some contents nothing names. -/
noncomputable def kernelRun0_B (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) :
    Σ' (L16 : List (View.Piece (Elt F) S8x16x2x64 .f32)), Σ' (L17 : List (View.Piece (Elt F) S8x16x2x64 .f32)), Σ' (L18 : List (View.Piece (Elt F) S8x4x128x128 .f32)), { LS0 : List (View.Piece (Elt F) S256x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs0 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ owns (c : Thread nD τ) arg22 fullShare xs0 ∗ (∃ d, owns (c : Thread nD τ) arg23 fullShare d)) -∗ K ⟨⟩))
          ⊢ wp frame (wpE (defs₀ (F := F)) Variants.none c none) E (cc0_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, [], fun E K => ?run⟩
  case run =>
    simp only [cc0_sample_mixer_eq_skeleton]; unfold cc0_sample_mixer_skel
    simp only [k0_part71_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg22.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]; · iexists _; iexact H16
    isplitl [H17]; · iexists _; iexact H17
    isplitl [H18]; · iexists _; iexact H18
    isplitl [H19]
    · iexists _, _; isplitr; swap; · iexact H19
      ipureintro; rfl
    isplitl [H20]
    · iexists _, _; isplitr; swap; · iexact H20
      ipureintro; rfl
    isplitl [HS0]
    · iexists _; isplitr; · ipureintro; exact harg22.read_unread _
      iexact HS0
    iexists _, _; isplitr; swap; · iexact HS1
    ipureintro; rfl

end Cert.Kernel2Ideal.Smp

end
-- ==== Proof.Smp.Outs.lean ====
module

public import proofs.«01_k».proof.Proof.Smp.RunA
public import proofs.«01_k».proof.Proof.Smp.RunB

@[expose] public section

set_option maxRecDepth 16384

noncomputable section

namespace Cert.Kernel2Ideal.Smp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for output 16 tile its block (16 stores of `S1x16x1x64`, checked by the kernel's evaluation: Lib/Ring.lean `Piece.tiledL`, linear in the pieces, through a loop's `@[irreducible]` trip theorem too), so they cover it. -/
theorem cover0_A_16 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (y : S8x16x2x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).1 S1x16x1x64.size (by sl_kernel_rfl) y

/-- What case A leaves in output 16's staging buffer: its pieces read back over junk. -/
def out0_A_16 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) : Vec F S8x16x2x64 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).1)

/-- Case A's pieces for output 17 tile its block (16 stores of `S1x16x1x64`, checked by the kernel's evaluation: Lib/Ring.lean `Piece.tiledL`, linear in the pieces, through a loop's `@[irreducible]` trip theorem too), so they cover it. -/
theorem cover0_A_17 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (y : S8x16x2x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.1 S1x16x1x64.size (by sl_kernel_rfl) y

/-- What case A leaves in output 17's staging buffer: its pieces read back over junk. -/
def out0_A_17 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) : Vec F S8x16x2x64 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.1)

/-- Case A's pieces for output 18 tile its block (32 stores of `S1x1x128x128`, checked by the kernel's evaluation: Lib/Ring.lean `Piece.tiledL`, linear in the pieces, through a loop's `@[irreducible]` trip theorem too), so they cover it. -/
theorem cover0_A_18 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (y : S8x4x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1 S1x1x128x128.size (by sl_kernel_rfl) y

/-- What case A leaves in output 18's staging buffer: its pieces read back over junk. -/
def out0_A_18 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) : Vec F S8x4x128x128 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1)

/-- Case A's pieces for scratch `arg22`, which the kernel carries between points, cover it: 1 piece of `S256x2816` tiling it (Lib/Ring.lean `Piece.tiledL`). -/
theorem scover0_A_0 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (y : S256x2816.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1 S256x2816.size (by sl_kernel_rfl) y

/-- What case A leaves in scratch `arg22`: its pieces read back over junk. -/
def sout0_A_0 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) : Vec F S256x2816 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1)

/-- Case B's pieces for output 16 tile its block (16 stores of `S1x16x1x64`, checked by the kernel's evaluation: Lib/Ring.lean `Piece.tiledL`, linear in the pieces, through a loop's `@[irreducible]` trip theorem too), so they cover it. -/
theorem cover0_B_16 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) (y : S8x16x2x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).1 S1x16x1x64.size (by sl_kernel_rfl) y

/-- What case B leaves in output 16's staging buffer: its pieces read back over junk. -/
def out0_B_16 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) : Vec F S8x16x2x64 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).1)

/-- Case B's pieces for output 17 tile its block (16 stores of `S1x16x1x64`, checked by the kernel's evaluation: Lib/Ring.lean `Piece.tiledL`, linear in the pieces, through a loop's `@[irreducible]` trip theorem too), so they cover it. -/
theorem cover0_B_17 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) (y : S8x16x2x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).2.1 S1x16x1x64.size (by sl_kernel_rfl) y

/-- What case B leaves in output 17's staging buffer: its pieces read back over junk. -/
def out0_B_17 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) : Vec F S8x16x2x64 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).2.1)

/-- Case B's pieces for output 18 tile its block (32 stores of `S1x1x128x128`, checked by the kernel's evaluation: Lib/Ring.lean `Piece.tiledL`, linear in the pieces, through a loop's `@[irreducible]` trip theorem too), so they cover it. -/
theorem cover0_B_18 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) (y : S8x4x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).2.2.1 S1x1x128x128.size (by sl_kernel_rfl) y

/-- What case B leaves in output 18's staging buffer: its pieces read back over junk. -/
def out0_B_18 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) : Vec F S8x4x128x128 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0).2.2.1)

/-- Case B stores nothing into scratch `arg22`: it holds what the point before left. -/
def sout0_B_0 (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec F S8 .f32) (x1 : Vec F S256x1024 .f32) (x2 : Vec F S128x640 .f32) (x3 : Vec F S4x128x128 .f32) (x4 : Vec F S128x512 .f32) (x5 : Vec F S128x512 .f32) (x6 : Vec F S1x512 .f32) (x7 : Vec F S8x2x64x128 .f32) (x8 : Vec F S8x2x64x128 .f32) (x9 : Vec F S8x4x128x128 .f32) (x10 : Vec F S1024x2816 .f32) (x11 : Vec F S1x512 .f32) (x12 : Vec F S1024x1024 .f32) (x13 : Vec F S1x1024 .f32) (x14 : Vec F S1x1024 .f32) (xs0 : Vec F S256x2816 .f32) : Vec F S256x2816 .f32 := xs0

end Cert.Kernel2Ideal.Smp

end
-- ==== Proof.Smp.Frame.lean ====
module

public import proofs.«01_k».proof.Proof.Smp.Outs

@[expose] public section

set_option maxRecDepth 16384

noncomputable section

namespace Cert.Kernel2Ideal.Smp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x16x2x64 .f32 × Vec F S8x16x2x64 .f32 × Vec F S8x4x128x128 .f32 × Vec F S256x2816 .f32
  | 0, hn => (out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 2 = 0 then
      if h1 : (n + 1) % 2 = 1 then
        False.elim (by have hN : n + 1 < 2 := lt_of_lt_of_eq hn (show cfg0.N = 2 from N_0); omega)
      else
        (out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 2 = 1 then
        (out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2.2.2)
      else
        False.elim (by have hN : n + 1 < 2 := lt_of_lt_of_eq hn (show cfg0.N = 2 from N_0); omega)

/-- `outsAt0` at a point of case A: that case's contents. -/
theorem outsAt0_A (c : Dev nD) (t : Fin cfg0.N) (h0 : t.val % 2 = 0) (h1 : ¬t.val % 2 = 1) :
    outsAt0 m c t.val t.isLt = (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) :
    outsAt0 m c t.val t.isLt = (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The output windows this certificate FORGETS (15, 19, 20): nothing reads what the kernel leaves in them, so nothing
    of it is named (Lib/Pipeline/Dat.lean `Dat.toRForget`). -/
def forgets0 : Fin 21 → Bool := fun w => w.val == 15 || w.val == 19 || w.val == 20
theorem forgets0_16 : forgets0 (16 : Fin 21) = false := by decide
theorem forgets0_17 : forgets0 (17 : Fin 21) = false := by decide
theorem forgets0_18 : forgets0 (18 : Fin 21) = false := by decide

/-- The proof data of the one pipeline on core `c`: the arrays as the region finds them (`V`); after the body at
    point `t` each input's buffer at its block and the NAMED outputs' at `outsAt0` (the forgotten at `Dat.unnamed`); the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, _⟩ => (outsAt0 m c t.val t.isLt).1
    | ⟨17, _⟩ => (outsAt0 m c t.val t.isLt).2.1
    | ⟨18, _⟩ => (outsAt0 m c t.val t.isLt).2.2.1
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d)
    ∗ (∃ d, owns (c : Thread nD τ) (ms0_20 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d)
    ∗ (dats m 0 c).leavesExact 16 t
    ∗ (dats m 0 c).leavesExact 17 t
    ∗ (dats m 0 c).leavesExact 18 t
    ∗ (∃ d, owns (c : Thread nD τ) (ms0_19 t) fullShare d)
    ∗ (∃ d, owns (c : Thread nD τ) (ms0_20 t) fullShare d))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 2 := lt_of_lt_of_eq t.isLt (show cfg0.N = 2 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      by_cases hz : t.val = 0
      · rw [PhiS_castSucc m c t, PhiS_zero m c _ _ hz, PhiA0_eq]
        rw [outsAt0_A m c t h0 h1]
        unfold out0_A_16 out0_A_17 out0_A_18 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        iintro ⟨H0, H1, H2, H3, H4, H5, H6, H7, H8, H9, H10, H11, H12, H13, H14, H15, ⟨%e16, H16⟩, ⟨%e17, H17⟩, ⟨%e18, H18⟩, H19, H20, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]; · iexact H19
        iexact H20
      · exfalso; have hN : t.val < 2 := lt_of_lt_of_eq t.isLt (show cfg0.N = 2 from N_0); omega
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      by_cases hz : t.val = 0
      · exfalso; have hN : t.val < 2 := lt_of_lt_of_eq t.isLt (show cfg0.N = 2 from N_0); omega
      · rw [PhiS_castSucc m c t, PhiS_pos m c _ _ hz]
        rw [outsAt0_B m c t h0 h1]
        unfold out0_B_16 out0_B_17 out0_B_18 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        iintro ⟨H0, H1, H2, H3, H4, H5, H6, H7, H8, H9, H10, H11, H12, H13, H14, H15, ⟨%e16, H16⟩, ⟨%e17, H17⟩, ⟨%e18, H18⟩, H19, H20, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H18]
        · unfold owns; iexists _; isplitr
          swap; · iexact H18
          ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H19]; · iexact H19
        iexact H20
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 2 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 15, 19, 20) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Argument 0 ends as it began: no window stages it. -/
theorem keeps_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 ends as it began: no window stages it. -/
theorem keeps_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 ends as it began: no window stages it. -/
theorem keeps_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 ends as it began: no window stages it. -/
theorem keeps_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 ends as it began: no window stages it. -/
theorem keeps_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 ends as it began: input window 11 reads it and nothing writes it back. -/
theorem keeps_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 11 rfl).trans ((A_eq m c 11).trans (V_main_arg5 m c))

/-- Argument 6 ends as it began: no window stages it. -/
theorem keeps_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 ends as it began: no window stages it. -/
theorem keeps_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument 8 ends as it began: input window 13 reads it and nothing writes it back. -/
theorem keeps_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  (Pipeline.RDat.FramePost.arr_in h c 13 rfl).trans ((A_eq m c 13).trans (V_main_arg8 m c))

/-- Argument 9 ends as it began: input window 14 reads it and nothing writes it back. -/
theorem keeps_arg9 (r : PUnit × MemSt nD τ sig (Elt F)) (h : Pipeline.RDat.FramePost (cfgs 0) (fun c => (dats m 0 c).toRForget forgets0) (V m) r) (c : Dev nD) :
    r.2.mem ((c : Thread nD τ).loc main_arg9) = m ((c : Thread nD τ).loc main_arg9) :=
  (Pipeline.RDat.FramePost.arr_in h c 14 rfl).trans ((A_eq m c 14).trans (V_main_arg9 m c))

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨keeps_arg0 m r h c, keeps_arg1 m r h c, keeps_arg2 m r h c, keeps_arg3 m r h c, keeps_arg4 m r h c, keeps_arg5 m r h c, keeps_arg6 m r h c, keeps_arg7 m r h c, keeps_arg8 m r h c, keeps_arg9 m r h c⟩) (run_main m ρ)

/-- The frame of the sample mixer at any `F`: it ends, its arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Smp

end
-- ==== Proof.Smp.Row.lean ====
module

public import proofs.«01_k».proof.Proof.Smp.Outs
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

/-- Entry `(r, e)` of a matrix, at natural numbers. -/
def at2 {n m : ℕ} (P : (⟨2, ![n, m]⟩ : Shape).Idx → EReal) (r e : ℕ) : EReal :=
  if h : r < n ∧ e < m then P (ix2 ⟨r, h.1⟩ ⟨e, h.2⟩) else 0

/-- Entry `(a, b, c, d)` of an array of rank four, at natural numbers. -/
def at4 {n m p q : ℕ} (P : (⟨4, ![n, m, p, q]⟩ : Shape).Idx → EReal) (a b c d : ℕ) : EReal :=
  if h : a < n ∧ b < m ∧ c < p ∧ d < q then P (ix4 ⟨a, h.1⟩ ⟨b, h.2.1⟩ ⟨c, h.2.2.1⟩ ⟨d, h.2.2.2⟩) else 0

/-- A matrix's entry is the entry at its indices' numbers. -/
theorem at2_eq {n m : ℕ} (P : (⟨2, ![n, m]⟩ : Shape).Idx → EReal) (a : Fin n) (b : Fin m) : P (ix2 a b) = at2 P a.val b.val := by
  unfold at2
  rw [dif_pos ⟨a.isLt, b.isLt⟩]

/-- The same at rank four. -/
theorem at4_eq {n m p q : ℕ} (P : (⟨4, ![n, m, p, q]⟩ : Shape).Idx → EReal) (a : Fin n) (b : Fin m) (c : Fin p) (d : Fin q) :
    P (ix4 a b c d) = at4 P a.val b.val c.val d.val := by
  unfold at4
  rw [dif_pos ⟨a.isLt, b.isLt, c.isLt, d.isLt⟩]

/-- Equal numbers, equal entries. -/
theorem at2_congr {n m : ℕ} (P : (⟨2, ![n, m]⟩ : Shape).Idx → EReal) {r r' e e' : ℕ} (h : r = r') (h' : e = e') : at2 P r e = at2 P r' e' := by
  rw [h, h']

/-- The same at rank four. -/
theorem at4_congr {n m p q : ℕ} (P : (⟨4, ![n, m, p, q]⟩ : Shape).Idx → EReal) {a a' b b' c c' d d' : ℕ} (ha : a = a') (hb : b = b') (hc : c = c')
    (hd : d = d') : at4 P a b c d = at4 P a' b' c' d' := by
  rw [ha, hb, hc, hd]

/-- The rows and columns of the scratch that load 5 reads. -/
theorem off5 : ∀ i : grid0.Coords, k0_off5 i = ![128 * (i 0).val, 512] := by decide +kernel

/-- The rows and columns of the scratch that load 6 reads. -/
theorem off6 : ∀ i : grid0.Coords, k0_off6 i = ![128 * (i 0).val, 640] := by decide +kernel

/-- The rows and columns of the scratch that load 7 reads. -/
theorem off7 : ∀ i : grid0.Coords, k0_off7 i = ![128 * (i 0).val, 768] := by decide +kernel

/-- The rows and columns of the scratch that load 8 reads. -/
theorem off8 : ∀ i : grid0.Coords, k0_off8 i = ![128 * (i 0).val, 896] := by decide +kernel

/-- The rows and columns of the scratch that load 9 reads. -/
theorem off9 : ∀ i : grid0.Coords, k0_off9 i = ![128 * (i 0).val, 1024] := by decide +kernel

/-- The rows and columns of the scratch that load 10 reads. -/
theorem off10 : ∀ i : grid0.Coords, k0_off10 i = ![128 * (i 0).val, 1152] := by decide +kernel

/-- The rows and columns of the scratch that load 11 reads. -/
theorem off11 : ∀ i : grid0.Coords, k0_off11 i = ![128 * (i 0).val, 1280] := by decide +kernel

/-- The rows and columns of the scratch that load 12 reads. -/
theorem off12 : ∀ i : grid0.Coords, k0_off12 i = ![128 * (i 0).val, 1408] := by decide +kernel

/-- The rows and columns of the scratch that load 13 reads. -/
theorem off13 : ∀ i : grid0.Coords, k0_off13 i = ![128 * (i 0).val, 2560] := by decide +kernel

/-- The rows and columns of the scratch that load 14 reads. -/
theorem off14 : ∀ i : grid0.Coords, k0_off14 i = ![128 * (i 0).val, 2688] := by decide +kernel

/-- Coordinate `l` of the two heads of keys in a row of the kernel's scratch: three products with the table, of the entry and the entries eight lanes to its left and right. -/
def keyLane (P : Vec Ideal S256x2816 .f32) (T : Vec Ideal S128x640 .f32) (r rr l : ℕ) : EReal :=
  at2 P r (2560 + l) * at2 T rr (256 + l) + at2 P r (2560 + (l + 128 - 8) % 128) * at2 T rr (384 + l)
    + at2 P r (2560 + (l + 128 - 120) % 128) * at2 T rr (512 + l)

/-- Coordinate `d` of a retention key in a row of the kernel's scratch, its head's columns from `o`: two products with the table, times the decay. -/
def keyRow (P : Vec Ideal S256x2816 .f32) (T : Vec Ideal S128x640 .f32) (K : Vec Ideal S128x512 .f32) (r rr h d : ℕ) : EReal :=
  (at2 P r (512 + h * 128 + d) * at2 T rr d + at2 P r (512 + h * 128 + (d + 128 - 64) % 128) * at2 T rr (128 + d)) * at2 K rr (h * 128 + d)

/-- What the first point leaves in the scratch: the product of the activations and the converted weights. -/
theorem sout_eq (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14
      = k0_pay5 x1 (arg20.view.readCov (Val := Elt Ideal) [⟨Rect.unit (s := S1024x2816) ![0, 2048] ![1024, 512] inb_S1024x2816_S1024x512_0_2048, k0_pay3 (View.ld x10 (Rect.unit ![0, 2048] ![1024, 512] inb_S1024x2816_S1024x512_0_2048))⟩,
          ⟨Rect.unit (s := S1024x2816) ![0, 0] ![1024, 2816] inb_S1024x2816_S1024x2816_0_0, k0_pay2 x10⟩]
        (Rect.unit (s := S1024x2816) ![0, 0] ![1024, 2816] inb_S1024x2816_S1024x2816_0_0).toLoadRect) := by
  funext j
  idx_vars j
  frame_out

end Cert.Kernel2Ideal.Smp

end
-- ==== Proof.Smp.Spec.lean ====
module

public import proofs.«01_k».proof.Kernel2Ideal
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal
open Idealize.ShloMosaic Idealize.ShloMosaic.TcCoe Idealize.SL.Sem
open Idealize.ShloMosaic.Pipeline (Dat)

/-- The angle of rotation of pair `i` of a retention head at new frame `t`: its position times the base to the power `-i / 64`. -/
def retAng (t i : ℕ) : EReal :=
  FloatOps.sitofp (F := Ideal) FTy.f32 (IntOp.addi 2048#32 (BitVec.ofNat 32 t))
    * Ideal.pow (Ideal.ofBits .f32 0x461C4000#32) (Ideal.div (-FloatOps.sitofp (F := Ideal) FTy.f32 (BitVec.ofNat 32 i)) (Ideal.ofBits .f32 0x42800000#32))

/-- The angle of rotation of pair `i` of an attention head at new frame `t`: its position times the base to the power `-i / 8`. -/
def swaAng (t i : ℕ) : EReal :=
  FloatOps.sitofp (F := Ideal) FTy.f32 (IntOp.addi 2048#32 (BitVec.ofNat 32 t))
    * Ideal.pow (Ideal.ofBits .f32 0x48F42400#32) (Ideal.div (-FloatOps.sitofp (F := Ideal) FTy.f32 (BitVec.ofNat 32 i)) (Ideal.ofBits .f32 0x41000000#32))

/-- The logarithm of retention head `h`'s decay. -/
def logGam (h : ℕ) : EReal :=
  Ideal.log1p (-Ideal.pow (Ideal.ofBits .f32 0x40000000#32) (Ideal.ofBits .f32 0xC0A00000#32 - FloatOps.sitofp (F := Ideal) FTy.f32 (BitVec.ofNat 32 h)))

/-- How far frame `t`'s key has decayed when the sixteen new frames end. -/
def keyDec (t h : ℕ) : EReal :=
  Ideal.exp (logGam h * (Ideal.ofBits .f32 0x41700000#32 - FloatOps.sitofp (F := Ideal) FTy.f32 (BitVec.ofNat 32 t)))

/-- The decay of the old state over the sixteen new frames. -/
def stateDec (h : ℕ) : EReal :=
  Ideal.exp (logGam h * Ideal.ofBits .f32 0x41800000#32)

/-- Coordinate `d` of a retention head's rotated vector at new frame `t`. -/
def rotRet (p : Fin 128 → EReal) (t : ℕ) (d : Fin 128) : EReal :=
  if h : d.val < 64 then p d * Ideal.cos (retAng t d.val) - p ⟨d.val + 64, by omega⟩ * Ideal.sin (retAng t d.val)
  else p d * Ideal.cos (retAng t (d.val - 64)) + p ⟨d.val - 64, by omega⟩ * Ideal.sin (retAng t (d.val - 64))

/-- Coordinate `d` of an attention head's vector at new frame `t`, its first sixteen coordinates rotated. -/
def rotSwa (p : Fin 64 → EReal) (t : ℕ) (d : Fin 64) : EReal :=
  if h : d.val < 8 then p d * Ideal.cos (swaAng t d.val) - p ⟨d.val + 8, by omega⟩ * Ideal.sin (swaAng t d.val)
  else if h' : d.val < 16 then p d * Ideal.cos (swaAng t (d.val - 8)) + p ⟨d.val - 8, by omega⟩ * Ideal.sin (swaAng t (d.val - 8))
  else p d

/-- Column `e` of the projection of frame `t` of stream `b`. -/
def projAt (x : FVec Ideal S16x16x1024 .f32) (w : FVec Ideal S1x1024x2816 .f32) (b t : Fin 16) (e : Fin 2816) : EReal :=
  ∑ k, x (ix3 b t k) * w (ix3 0 k e)

/-- The attention keys of the new frames. -/
def keysOut (x : FVec Ideal S16x16x1024 .f32) (w : FVec Ideal S1x1024x2816 .f32) : FVec Ideal S16x16x2x64 .f32 := fun j =>
  rotSwa (fun d => projAt x w (j 0) (j 1) ⟨2560 + ((j 2).val * 64 + d.val), by have h : (j 2).val < 2 := (j 2).isLt; omega⟩) (j 1).val (j 3)

/-- The attention values of the new frames. -/
def valuesOut (x : FVec Ideal S16x16x1024 .f32) (w : FVec Ideal S1x1024x2816 .f32) : FVec Ideal S16x16x2x64 .f32 := fun j =>
  projAt x w (j 0) (j 1) ⟨2688 + ((j 2).val * 64 + (j 3).val), by have h : (j 2).val < 2 := (j 2).isLt; have h' : (j 3).val < 64 := (j 3).isLt; omega⟩

/-- The retention state after the new frames: the old state decayed, plus the outer products of the decayed keys with the values. -/
def stateOut (x : FVec Ideal S16x16x1024 .f32) (s : FVec Ideal S1x16x4x128x128 .f32) (w : FVec Ideal S1x1024x2816 .f32) : FVec Ideal S16x4x128x128 .f32 := fun j =>
  stateDec (j 1).val * s (ix5 0 (j 0) (j 1) (j 2) (j 3))
    + ∑ t : Fin 16, rotRet (fun d => projAt x w (j 0) t ⟨512 + ((j 1).val * 128 + d.val), by have h : (j 1).val < 4 := (j 1).isLt; omega⟩ * Ideal.ofBits .f32 0x3DB504F3#32) t.val (j 2) * keyDec t.val (j 1).val
        * projAt x w (j 0) t ⟨1024 + ((j 1).val * 128 + (j 3).val), by have h : (j 1).val < 4 := (j 1).isLt; have h' : (j 3).val < 128 := (j 3).isLt; omega⟩

end Cert.Kernel2Ideal.Smp

end
-- ==== Proof.Smp.Tab.lean ====
module

public import proofs.«01_k».proof.Proof.Gen.Kernel2Ideal.Frame
public import proofs.«01_k».proof.Proof.Smp.Spec
public import Idealize.ShloMosaic.Lib.StableHlo.RunRead
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

/-- Column `l` of the first table, the cosines of the retention heads. -/
def cosRet (t l : ℕ) : EReal := if h : l < 64 then Ideal.cos (retAng t l) else Ideal.cos (retAng t (l - 64))

/-- Column `l` of the second table, their sines with the sign of the half. -/
def sinRet (t l : ℕ) : EReal := if h : l < 64 then -Ideal.sin (retAng t l) else Ideal.sin (retAng t (l - 64))

/-- Column `l` of the third table, the cosines of the attention heads, one past the rotated coordinates. -/
def cosSwa (t l : ℕ) : EReal := if h : l % 64 < 8 then Ideal.cos (swaAng t (l % 64)) else if h : l % 64 - 8 < 8 then Ideal.cos (swaAng t (l % 64 - 8)) else 1

/-- Column `l` of the fourth table, the sines that meet the entry eight lanes before. -/
def sinSwa (t l : ℕ) : EReal := if h : l % 64 < 8 then 0 else if h : l % 64 - 8 < 8 then Ideal.sin (swaAng t (l % 64 - 8)) else 0

/-- Column `l` of the fifth table, the negated sines that meet the entry eight lanes after. -/
def negSwa (t l : ℕ) : EReal := if h : l % 64 < 8 then -Ideal.sin (swaAng t (l % 64)) else if h : l % 64 - 8 < 8 then 0 else 0

/-- Column `e` of the five tables side by side. -/
def tabVal (t e : ℕ) : EReal :=
  if h : e < 128 then cosRet t e
  else if h : e - 128 < 128 then sinRet t (e - 128)
  else if h : e - 128 - 128 < 128 then cosSwa t (e - 128 - 128)
  else if h : e - 128 - 128 - 128 < 128 then sinSwa t (e - 128 - 128 - 128)
  else negSwa t (e - 128 - 128 - 128 - 128)

variable (m : (ℓ : Loc nD τ sig) → Buf (Elt Ideal) ℓ) (c : Dev nD)

set_option maxHeartbeats 1600000 in
/-- The table the host builds: row `r` is for new frame `r mod 16`. -/
theorem tab_at (r : Fin 128) (e : Fin 640) : V m c main_v52 (ix2 r e) = tabVal (r.val % 16) e.val := by
  unfold V
  after_reads_simp
  pointwise
  after_reads_simp
  pointwise
  after_reads_simp
  pointwise
  simp only [tabVal, cosRet, sinRet, cosSwa, sinSwa, negSwa, retAng, swaAng]

set_option maxHeartbeats 1600000 in
/-- The table of the keys' decays, with the scale of the keys. -/
theorem kdec_at (r : Fin 128) (e : Fin 512) : V m c main_v153 (ix2 r e) = Ideal.ofBits .f32 0x3DB504F3#32 * keyDec (r.val % 16) (e.val / 128) := by
  unfold V
  after_reads_simp
  pointwise
  simp only [keyDec, logGam]

set_option maxHeartbeats 1600000 in
/-- The table of the states' decays. -/
theorem gam_at (e : Fin 512) : V m c main_v106 (ix2 0 e) = stateDec (e.val / 128) := by
  unfold V
  after_reads_simp
  pointwise
  simp only [stateDec, logGam]

set_option maxHeartbeats 1600000 in
/-- The host's reshape of the old states. -/
theorem state_at (b : Fin 16) (h : Fin 4) (d e : Fin 128) : V m c main_v158 (ix4 b h d e) = m ((c : Thread nD τ).loc main_arg3) (ix5 0 b h d e) := by
  unfold V
  after_reads_simp
  pointwise

set_option maxHeartbeats 1600000 in
/-- The host's reshape of the weights. -/
theorem weights_at (k : Fin 1024) (e : Fin 2816) : V m c main_v160 (ix2 k e) = m ((c : Thread nD τ).loc main_arg4) (ix3 0 k e) := by
  unfold V
  after_reads_simp
  pointwise

set_option maxHeartbeats 1600000 in
/-- The host's reshape of the activations: row `16 b + t` is frame `t` of stream `b`. -/
theorem rows_at (b t : Fin 16) (k : Fin 1024) :
    V m c main_v162 (ix2 (⟨b.val * 16 + t.val, by omega⟩ : Fin 256) k) = m ((c : Thread nD τ).loc main_arg0) (ix3 b t k) := by
  unfold V
  after_reads_simp
  pointwise

end Cert.Kernel2Ideal.Smp

end
-- ==== Proof.Smp.Lanes.lean ====
module

public import proofs.«01_k».proof.Proof.Smp.Row
public import proofs.«01_k».proof.Proof.Smp.Tab
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

/-- The scale of the keys, a positive real number. -/
theorem kscale_real : Ideal.ofBits .f32 0x3DB504F3#32 = ((11863283 / 134217728 : ℝ) : EReal) := by
  simp [Ideal.ofBits, Ideal.ieee, -EReal.coe_mul]; norm_num

/-- The scale of the keys multiplies a sum term by term. -/
theorem add_kscale (y z : EReal) :
    (y + z) * Ideal.ofBits .f32 0x3DB504F3#32 = y * Ideal.ofBits .f32 0x3DB504F3#32 + z * Ideal.ofBits .f32 0x3DB504F3#32 := by
  rw [kscale_real]
  exact EReal.right_distrib_of_nonneg_of_ne_top (EReal.coe_nonneg.mpr (by norm_num)) (EReal.coe_ne_top _) y z

/-- The cosine columns. -/
theorem tab_cosRet (t l : ℕ) (hl : l < 128) : tabVal t l = cosRet t l := by
  unfold tabVal
  rw [dif_pos hl]

/-- The sine columns. -/
theorem tab_sinRet (t l : ℕ) (hl : l < 128) : tabVal t (128 + l) = sinRet t l := by
  unfold tabVal
  rw [dif_neg (by omega), dif_pos (by omega), show 128 + l - 128 = l by omega]

/-- The third table's columns. -/
theorem tab_cosSwa (t l : ℕ) (hl : l < 128) : tabVal t (256 + l) = cosSwa t l := by
  unfold tabVal
  rw [dif_neg (by omega), dif_neg (by omega), dif_pos (by omega), show 256 + l - 128 - 128 = l by omega]

/-- The fourth table's columns. -/
theorem tab_sinSwa (t l : ℕ) (hl : l < 128) : tabVal t (384 + l) = sinSwa t l := by
  unfold tabVal
  rw [dif_neg (by omega), dif_neg (by omega), dif_neg (by omega), dif_pos (by omega), show 384 + l - 128 - 128 - 128 = l by omega]

/-- The fifth table's columns. -/
theorem tab_negSwa (t l : ℕ) (hl : l < 128) : tabVal t (512 + l) = negSwa t l := by
  unfold tabVal
  rw [dif_neg (by omega), dif_neg (by omega), dif_neg (by omega), dif_neg (by omega), show 512 + l - 128 - 128 - 128 - 128 = l by omega]

/-- A head's rotated key: the kernel's three products are the rotation of its first sixteen coordinates. -/
theorem keyLane_rot (P : Vec Ideal S256x2816 .f32) (T : Vec Ideal S128x640 .f32) (hT : ∀ rr e, rr < 128 → e < 640 → at2 T rr e = tabVal (rr % 16) e)
    (r rr : ℕ) (hrr : rr < 128) (g : Fin 2) (d : Fin 64) :
    keyLane P T r rr (g.val * 64 + d.val) = rotSwa (fun d => at2 P r (2560 + (g.val * 64 + d.val))) (rr % 16) d := by
  have hg : g.val < 2 := g.isLt
  have hd : d.val < 64 := d.isLt
  have hm : (g.val * 64 + d.val) % 64 = d.val := by omega
  unfold keyLane rotSwa
  rw [hT rr _ hrr (by omega), hT rr _ hrr (by omega), hT rr _ hrr (by omega), tab_cosSwa _ _ (by omega), tab_sinSwa _ _ (by omega), tab_negSwa _ _ (by omega)]
  unfold cosSwa sinSwa negSwa
  rw [hm]
  by_cases h : d.val < 8
  · rw [dif_pos h, dif_pos h, dif_pos h, dif_pos h, mul_zero, add_zero, mul_neg, ← sub_eq_add_neg]
    dsimp only
    rw [show 2560 + (g.val * 64 + d.val + 128 - 120) % 128 = 2560 + (g.val * 64 + (d.val + 8)) by omega]
  · by_cases h' : d.val < 16
    · rw [dif_neg h, dif_neg h, dif_neg h, dif_neg h, dif_pos h', dif_pos (by omega : d.val - 8 < 8), dif_pos (by omega : d.val - 8 < 8), dif_pos (by omega : d.val - 8 < 8), mul_zero, add_zero]
      dsimp only
      rw [show 2560 + (g.val * 64 + d.val + 128 - 8) % 128 = 2560 + (g.val * 64 + (d.val - 8)) by omega]
    · rw [dif_neg h, dif_neg h, dif_neg h, dif_neg h, dif_neg h', dif_neg (by omega : ¬ d.val - 8 < 8), dif_neg (by omega : ¬ d.val - 8 < 8), dif_neg (by omega : ¬ d.val - 8 < 8), mul_zero, mul_zero, mul_one, add_zero, add_zero]

/-- A retention head's decayed key: the scale of the keys, which the kernel multiplies in with the decay, is the reference's before the rotation. -/
theorem keyRow_rot (P : Vec Ideal S256x2816 .f32) (T : Vec Ideal S128x640 .f32) (K : Vec Ideal S128x512 .f32)
    (hT : ∀ rr e, rr < 128 → e < 640 → at2 T rr e = tabVal (rr % 16) e)
    (hK : ∀ rr e, rr < 128 → e < 512 → at2 K rr e = Ideal.ofBits .f32 0x3DB504F3#32 * keyDec (rr % 16) (e / 128))
    (r rr : ℕ) (hrr : rr < 128) (h : Fin 4) (d : Fin 128) :
    keyRow P T K r rr h.val d.val
      = rotRet (fun d => at2 P r (512 + (h.val * 128 + d.val)) * Ideal.ofBits .f32 0x3DB504F3#32) (rr % 16) d * keyDec (rr % 16) h.val := by
  have hh : h.val < 4 := h.isLt
  have hd : d.val < 128 := d.isLt
  unfold keyRow rotRet
  rw [hT rr _ hrr (by omega), hT rr _ hrr (by omega), hK rr _ hrr (by omega), tab_cosRet _ _ hd, tab_sinRet _ _ hd, show (h.val * 128 + d.val) / 128 = h.val by omega,
    ← mul_assoc, add_kscale]
  refine congrArg (· * keyDec (rr % 16) h.val) ?_
  unfold cosRet sinRet
  by_cases hc : d.val < 64
  · rw [dif_pos hc, dif_pos hc, dif_pos hc, mul_right_comm, mul_right_comm (at2 P r (512 + h.val * 128 + (d.val + 128 - 64) % 128)), mul_neg, ← sub_eq_add_neg]
    dsimp only
    rw [show 512 + h.val * 128 + d.val = 512 + (h.val * 128 + d.val) by omega, show 512 + h.val * 128 + (d.val + 128 - 64) % 128 = 512 + (h.val * 128 + (d.val + 64)) by omega]
  · rw [dif_neg hc, dif_neg hc, dif_neg hc, mul_right_comm, mul_right_comm (at2 P r (512 + h.val * 128 + (d.val + 128 - 64) % 128))]
    dsimp only
    rw [show 512 + h.val * 128 + d.val = 512 + (h.val * 128 + d.val) by omega, show 512 + h.val * 128 + (d.val + 128 - 64) % 128 = 512 + (h.val * 128 + (d.val - 64)) by omega]

end Cert.Kernel2Ideal.Smp

end
-- ==== Proof.Smp.Sum.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- What the first point leaves in the scratch, outside the columns of the attention queries: the projections of the activations. -/
theorem sout_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (r : Fin 256) (e : Fin 2816) (he : e.val < 2048 ∨ 2560 ≤ e.val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 (ix2 r e) = ∑ k, x1 (ix2 r k) * x10 (ix2 k e) := by
  rw [sout_eq]
  pointwise [k0_pay5]
  refine Finset.sum_congr rfl fun k _ => congrArg (x1 (ix2 r k) * ·) ?_
  rw [View.readCov_eq_canon']
  refine (congrArg _ (?_ : _ = ix2 k e)).trans ?_
  · funext a
    refine Fin.ext ?_
    match a with
    | ⟨0, _⟩ => show 0 + 1 * k.val = k.val; omega
    | ⟨1, _⟩ => show 0 + 1 * e.val = e.val; omega
  have hm : ix2 k e ∈ (Rect.unit (s := S1024x2816) ![0, 0] ![1024, 2816] inb_S1024x2816_S1024x2816_0_0).set :=
    (Rect.unit (s := S1024x2816) ![0, 0] ![1024, 2816] inb_S1024x2816_S1024x2816_0_0).toLoadRect.mem_set.mpr fun a => by
      match a with
      | ⟨0, _⟩ => exact ⟨k.val, k.isLt, by show k.val = 0 + 1 * k.val; omega⟩
      | ⟨1, _⟩ => exact ⟨e.val, e.isLt, by show e.val = 0 + 1 * e.val; omega⟩
  canon_tiles y hy using ⟨_, List.mem_cons_of_mem _ List.mem_cons_self, hm⟩
  all_goals
    idx_vars y
    replace hy0 : k.val = _ := hy0
    replace hy1 : e.val = _ := hy1
  · exfalso; omega
  · obtain rfl := Fin.ext hy0
    obtain rfl := Fin.ext hy1
    pointwise [k0_pay2]

end Cert.Kernel2Ideal.Smp

end
-- ==== Proof.Smp.RowA16.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- The keys the first point leaves in its output block. -/
theorem outA16_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (si : Fin 8) (t : Fin 16) (g : Fin 2) (d : Fin 64) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 (ix4 si t g d) = keyLane (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14) x2 (128 * (i 0).val + (si.val * 16 + t.val)) (si.val * 16 + t.val) (g.val * 64 + d.val) := by
  rw [sout_eq]
  frame_out
  canon_tiles y hy
  all_goals
    idx_vars y
    replace hy0 : si.val = _ := hy0
    replace hy1 : t.val = _ := hy1
    replace hy2 : g.val = _ := hy2
    replace hy3 : d.val = _ := hy3
    simp only [keyLane, keyRow]
    pointwise [k0_pay33, k0_pay34, k0_pay36]
    simp only [at2_eq, at4_eq, off5, off6, off7, off8, off9, off10, off11, off12, off13, off14, Matrix.cons_val_zero, Matrix.cons_val_one]
    exact congrArg₂ (· + ·) (congrArg₂ (· + ·) (congrArg₂ (· * ·) (at2_congr _ (by omega) (by omega)) (at2_congr _ (by omega) (by omega))) (congrArg₂ (· * ·) (at2_congr _ (by omega) (by omega)) (at2_congr _ (by omega) (by omega)))) (congrArg₂ (· * ·) (at2_congr _ (by omega) (by omega)) (at2_congr _ (by omega) (by omega)))

end Cert.Kernel2Ideal.Smp

end
-- ==== Proof.Smp.RowA17.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- The values the first point leaves in its output block. -/
theorem outA17_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (si : Fin 8) (t : Fin 16) (g : Fin 2) (d : Fin 64) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 (ix4 si t g d) = at2 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14) (128 * (i 0).val + (si.val * 16 + t.val)) (2688 + (g.val * 64 + d.val)) := by
  rw [sout_eq]
  frame_out
  canon_tiles y hy
  all_goals
    idx_vars y
    replace hy0 : si.val = _ := hy0
    replace hy1 : t.val = _ := hy1
    replace hy2 : g.val = _ := hy2
    replace hy3 : d.val = _ := hy3
    pointwise [k0_pay35]
    simp only [at2_eq, at4_eq, off5, off6, off7, off8, off9, off10, off11, off12, off13, off14, Matrix.cons_val_zero, Matrix.cons_val_one]
    exact at2_congr _ (by omega) (by omega)

end Cert.Kernel2Ideal.Smp

end
-- ==== Proof.Smp.RowA18.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- The states the first point leaves in its output block. -/
theorem outA18_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : cond0_0 i) (hc1 : ¬cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (si : Fin 8) (h : Fin 4) (d e : Fin 128) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 (ix4 si h d e) = at2 x6 0 (h.val * 128 + e.val) * at4 x9 si.val h.val d.val e.val
      + ∑ t : Fin 16, keyRow (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14) x2 x5 (128 * (i 0).val + (si.val * 16 + t.val)) (si.val * 16 + t.val) h.val d.val * at2 (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14) (128 * (i 0).val + (si.val * 16 + t.val)) (1024 + (h.val * 128 + e.val)) := by
  rw [sout_eq]
  frame_out
  canon_tiles y hy
  all_goals
    idx_vars y
    replace hy0 : si.val = _ := hy0
    replace hy1 : h.val = _ := hy1
    replace hy2 : d.val = _ := hy2
    replace hy3 : e.val = _ := hy3
    simp only [keyLane, keyRow]
    pointwise [k0_pay10, k0_pay11, k0_pay12, k0_pay13, k0_pay14, k0_pay15, k0_pay16, k0_pay25, k0_pay26, k0_pay27, k0_pay28, k0_pay29, k0_pay30, k0_pay31, k0_pay32, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
    simp only [at2_eq, at4_eq, off5, off6, off7, off8, off9, off10, off11, off12, off13, off14, Matrix.cons_val_zero, Matrix.cons_val_one]
    exact congrArg₂ (· + ·) (congrArg₂ (· * ·) (at2_congr _ (by omega) (by omega)) (at4_congr _ (by omega) (by omega) (by omega) (by omega)))
      (Finset.sum_congr rfl fun t _ => congrArg₂ (· * ·) (congrArg₂ (· * ·) (congrArg₂ (· + ·) (congrArg₂ (· * ·) (at2_congr _ (by omega) (by omega)) (at2_congr _ (by omega) (by omega))) (congrArg₂ (· * ·) (at2_congr _ (by omega) (by omega)) (at2_congr _ (by omega) (by omega)))) (at2_congr _ (by omega) (by omega))) (at2_congr _ (by omega) (by omega)))

end Cert.Kernel2Ideal.Smp

end
-- ==== Proof.Smp.RowB16.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- The keys the second point leaves in its output block. -/
theorem outB16_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (xs0 : Vec Ideal S256x2816 .f32) (si : Fin 8) (t : Fin 16) (g : Fin 2) (d : Fin 64) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 (ix4 si t g d) = keyLane xs0 x2 (128 * (i 0).val + (si.val * 16 + t.val)) (si.val * 16 + t.val) (g.val * 64 + d.val) := by
  frame_out
  canon_tiles y hy
  all_goals
    idx_vars y
    replace hy0 : si.val = _ := hy0
    replace hy1 : t.val = _ := hy1
    replace hy2 : g.val = _ := hy2
    replace hy3 : d.val = _ := hy3
    simp only [keyLane, keyRow]
    pointwise [k0_pay33, k0_pay34, k0_pay36]
    simp only [at2_eq, at4_eq, off5, off6, off7, off8, off9, off10, off11, off12, off13, off14, Matrix.cons_val_zero, Matrix.cons_val_one]
    exact congrArg₂ (· + ·) (congrArg₂ (· + ·) (congrArg₂ (· * ·) (at2_congr _ (by omega) (by omega)) (at2_congr _ (by omega) (by omega))) (congrArg₂ (· * ·) (at2_congr _ (by omega) (by omega)) (at2_congr _ (by omega) (by omega)))) (congrArg₂ (· * ·) (at2_congr _ (by omega) (by omega)) (at2_congr _ (by omega) (by omega)))

end Cert.Kernel2Ideal.Smp

end
-- ==== Proof.Smp.RowB17.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- The values the second point leaves in its output block. -/
theorem outB17_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (xs0 : Vec Ideal S256x2816 .f32) (si : Fin 8) (t : Fin 16) (g : Fin 2) (d : Fin 64) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 (ix4 si t g d) = at2 xs0 (128 * (i 0).val + (si.val * 16 + t.val)) (2688 + (g.val * 64 + d.val)) := by
  frame_out
  canon_tiles y hy
  all_goals
    idx_vars y
    replace hy0 : si.val = _ := hy0
    replace hy1 : t.val = _ := hy1
    replace hy2 : g.val = _ := hy2
    replace hy3 : d.val = _ := hy3
    pointwise [k0_pay35]
    simp only [at2_eq, at4_eq, off5, off6, off7, off8, off9, off10, off11, off12, off13, off14, Matrix.cons_val_zero, Matrix.cons_val_one]
    exact at2_congr _ (by omega) (by omega)

end Cert.Kernel2Ideal.Smp

end
-- ==== Proof.Smp.RowB18.lean ====
module

public import proofs.«01_k».proof.Proof.Smp.Row
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

set_option maxHeartbeats 1600000 in
/-- The states the second point leaves in its output block. -/
theorem outB18_at (c : Dev nD) (i : grid0.Coords) (arg1 : Memref sig .tc .smem S8 .f32) (harg1 : arg1.IsWhole) (arg2 : Memref sig .tc .vmem S256x1024 .f32) (harg2 : arg2.IsWhole) (arg3 : Memref sig .tc .vmem S128x640 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S1x512 .f32) (harg7 : arg7.IsWhole) (arg8 : Memref sig .tc .vmem S8x2x64x128 .f32) (harg8 : arg8.IsWhole) (arg9 : Memref sig .tc .vmem S8x2x64x128 .f32) (harg9 : arg9.IsWhole) (arg10 : Memref sig .tc .vmem S8x4x128x128 .f32) (harg10 : arg10.IsWhole) (arg11 : Memref sig .tc .vmem S1024x2816 .f32) (harg11 : arg11.IsWhole) (arg12 : Memref sig .tc .vmem S1x512 .f32) (harg12 : arg12.IsWhole) (arg13 : Memref sig .tc .vmem S1024x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S8x16x2x64 .f32) (harg17 : arg17.IsWhole) (arg18 : Memref sig .tc .vmem S8x16x2x64 .f32) (harg18 : arg18.IsWhole) (arg19 : Memref sig .tc .vmem S8x4x128x128 .f32) (harg19 : arg19.IsWhole) (arg20 : Memref sig .tc .vmem S1024x2816 .bf16) (harg20 : arg20.IsWhole) (arg21 : Memref sig .tc .vmem S1024x1024 .bf16) (harg21 : arg21.IsWhole) (arg22 : Memref sig .tc .vmem S256x2816 .f32) (harg22 : arg22.IsWhole) (arg23 : Memref sig .tc .vmem S256x1024 .bf16) (harg23 : arg23.IsWhole) (hc0 : ¬cond0_0 i) (hc1 : cond0_1 i)
    (x0 : Vec Ideal S8 .f32) (x1 : Vec Ideal S256x1024 .f32) (x2 : Vec Ideal S128x640 .f32) (x3 : Vec Ideal S4x128x128 .f32) (x4 : Vec Ideal S128x512 .f32) (x5 : Vec Ideal S128x512 .f32) (x6 : Vec Ideal S1x512 .f32) (x7 : Vec Ideal S8x2x64x128 .f32) (x8 : Vec Ideal S8x2x64x128 .f32) (x9 : Vec Ideal S8x4x128x128 .f32) (x10 : Vec Ideal S1024x2816 .f32) (x11 : Vec Ideal S1x512 .f32) (x12 : Vec Ideal S1024x1024 .f32) (x13 : Vec Ideal S1x1024 .f32) (x14 : Vec Ideal S1x1024 .f32) (xs0 : Vec Ideal S256x2816 .f32) (si : Fin 8) (h : Fin 4) (d e : Fin 128) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 (ix4 si h d e) = at2 x6 0 (h.val * 128 + e.val) * at4 x9 si.val h.val d.val e.val
      + ∑ t : Fin 16, keyRow xs0 x2 x5 (128 * (i 0).val + (si.val * 16 + t.val)) (si.val * 16 + t.val) h.val d.val * at2 xs0 (128 * (i 0).val + (si.val * 16 + t.val)) (1024 + (h.val * 128 + e.val)) := by
  frame_out
  canon_tiles y hy
  all_goals
    idx_vars y
    replace hy0 : si.val = _ := hy0
    replace hy1 : h.val = _ := hy1
    replace hy2 : d.val = _ := hy2
    replace hy3 : e.val = _ := hy3
    simp only [keyLane, keyRow]
    pointwise [k0_pay10, k0_pay11, k0_pay12, k0_pay13, k0_pay14, k0_pay15, k0_pay16, k0_pay25, k0_pay26, k0_pay27, k0_pay28, k0_pay29, k0_pay30, k0_pay31, k0_pay32, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354]
    simp only [at2_eq, at4_eq, off5, off6, off7, off8, off9, off10, off11, off12, off13, off14, Matrix.cons_val_zero, Matrix.cons_val_one]
    exact congrArg₂ (· + ·) (congrArg₂ (· * ·) (at2_congr _ (by omega) (by omega)) (at4_congr _ (by omega) (by omega) (by omega) (by omega)))
      (Finset.sum_congr rfl fun t _ => congrArg₂ (· * ·) (congrArg₂ (· * ·) (congrArg₂ (· + ·) (congrArg₂ (· * ·) (at2_congr _ (by omega) (by omega)) (at2_congr _ (by omega) (by omega))) (congrArg₂ (· * ·) (at2_congr _ (by omega) (by omega)) (at2_congr _ (by omega) (by omega)))) (at2_congr _ (by omega) (by omega))) (at2_congr _ (by omega) (by omega)))

end Cert.Kernel2Ideal.Smp

end
-- ==== Proof.Smp.Final.lean ====
module

public import proofs.«01_k».proof.Proof.Smp.Frame
public import proofs.«01_k».proof.Proof.Smp.Lanes
public import proofs.«01_k».proof.Proof.Smp.Sum
public import proofs.«01_k».proof.Proof.Smp.RowA16
public import proofs.«01_k».proof.Proof.Smp.RowA17
public import proofs.«01_k».proof.Proof.Smp.RowA18
public import proofs.«01_k».proof.Proof.Smp.RowB16
public import proofs.«01_k».proof.Proof.Smp.RowB17
public import proofs.«01_k».proof.Proof.Smp.RowB18
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The windows' block indices at every point, and the point's coordinate. -/
theorem idx : ∀ t : Fin cfg0.N, win0_1.index t = ![0, 0] ∧ win0_2.index t = ![0, 0] ∧ win0_5.index t = ![0, 0] ∧ win0_6.index t = ![0, 0]
    ∧ win0_9.index t = ![t.val, 0, 0, 0] ∧ win0_10.index t = ![0, 0] ∧ win0_16.index t = ![t.val, 0, 0, 0] ∧ win0_17.index t = ![t.val, 0, 0, 0]
    ∧ win0_18.index t = ![t.val, 0, 0, 0] :=
  (by decide +kernel : ∀ t : Fin grid0.N, _)

/-- A point's coordinate is its position. -/
theorem crd : ∀ t : Fin cfg0.N, ((grid0.coords t) 0).val = t.val := (by decide +kernel : ∀ t : Fin grid0.N, _)

/-- Both points' activations are the whole array. -/
theorem blk1 (c : Dev nD) (t : Fin cfg0.N) (r : Fin 256) (k : Fin 1024) : iblk m c 1 t (ix2 r k) = V m c main_v162 (ix2 r k) := by
  blk_ext [iblk, idx t]
/-- Both points' table is the whole array. -/
theorem blk2 (c : Dev nD) (t : Fin cfg0.N) (r : Fin 128) (e : Fin 640) : iblk m c 2 t (ix2 r e) = V m c main_v52 (ix2 r e) := by
  blk_ext [iblk, idx t]
/-- Both points' decays of the keys are the whole array. -/
theorem blk5 (c : Dev nD) (t : Fin cfg0.N) (r : Fin 128) (e : Fin 512) : iblk m c 5 t (ix2 r e) = V m c main_v153 (ix2 r e) := by
  blk_ext [iblk, idx t]
/-- Both points' decays of the states are the whole array. -/
theorem blk6 (c : Dev nD) (t : Fin cfg0.N) (e : Fin 512) : iblk m c 6 t (ix2 0 e) = V m c main_v106 (ix2 0 e) := by
  blk_ext [iblk, idx t]
/-- A point's old states are those of its eight streams. -/
theorem blk9 (c : Dev nD) (t : Fin cfg0.N) (ht : t.val < 2) (si : Fin 8) (h : Fin 4) (d e : Fin 128) :
    iblk m c 9 t (ix4 si h d e) = V m c main_v158 (ix4 (⟨t.val * 8 + si.val, by omega⟩ : Fin 16) h d e) := by
  blk_ext [iblk, idx t]
/-- Both points' weights are the whole array. -/
theorem blk10 (c : Dev nD) (t : Fin cfg0.N) (k : Fin 1024) (e : Fin 2816) : iblk m c 10 t (ix2 k e) = V m c main_v160 (ix2 k e) := by
  blk_ext [iblk, idx t]

/-- The table, at numbers. -/
theorem tabN (c : Dev nD) (t : Fin cfg0.N) (rr e : ℕ) (hr : rr < 128) (he : e < 640) : at2 (iblk m c 2 t) rr e = tabVal (rr % 16) e :=
  (at2_eq (iblk m c 2 t) ⟨rr, hr⟩ ⟨e, he⟩).symm.trans ((blk2 m c t ⟨rr, hr⟩ ⟨e, he⟩).trans (tab_at m c ⟨rr, hr⟩ ⟨e, he⟩))

/-- The decays of the keys, at numbers. -/
theorem kdecN (c : Dev nD) (t : Fin cfg0.N) (rr e : ℕ) (hr : rr < 128) (he : e < 512) :
    at2 (iblk m c 5 t) rr e = Ideal.ofBits .f32 0x3DB504F3#32 * keyDec (rr % 16) (e / 128) :=
  (at2_eq (iblk m c 5 t) ⟨rr, hr⟩ ⟨e, he⟩).symm.trans ((blk5 m c t ⟨rr, hr⟩ ⟨e, he⟩).trans (kdec_at m c ⟨rr, hr⟩ ⟨e, he⟩))

/-- The decays of the states, at numbers. -/
theorem gamN (c : Dev nD) (t : Fin cfg0.N) (e : ℕ) (he : e < 512) : at2 (iblk m c 6 t) 0 e = stateDec (e / 128) :=
  (at2_eq (iblk m c 6 t) 0 ⟨e, he⟩).symm.trans ((blk6 m c t ⟨e, he⟩).trans (gam_at m c ⟨e, he⟩))

/-- A scratch that holds the projections outside the columns of the attention queries: row `16 b + f` is frame `f` of stream `b`. -/
def Holds (P : Vec Ideal S256x2816 .f32) (x : FVec Ideal S16x16x1024 .f32) (w : FVec Ideal S1x1024x2816 .f32) : Prop :=
  ∀ (b f : Fin 16) (e : Fin 2816), (e.val < 2048 ∨ 2560 ≤ e.val) → at2 P (b.val * 16 + f.val) e.val = projAt x w b f e

/-- The first point leaves such a scratch. -/
theorem holds0 (c : Dev nD) (t : Fin cfg0.N) (h0 : t.val % 2 = 0) : Holds (outsAt0 m c t.val t.isLt).2.2.2 (m ((c : Thread nD τ).loc main_arg0)) (m ((c : Thread nD τ).loc main_arg4)) := by
  intro b f e he
  simp only [outsAt0_A m c t h0 (by omega)]
  refine (at2_eq _ (⟨b.val * 16 + f.val, by omega⟩ : Fin 256) e).symm.trans ?_
  rw [sout_at _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ he]
  unfold projAt
  exact Finset.sum_congr rfl fun k _ => congrArg₂ (· * ·) ((blk1 m c t _ k).trans (rows_at m c b f k)) ((blk10 m c t k e).trans (weights_at m c k e))

/-- The scratch the second point finds is the one the first left. -/
theorem holds1 (c : Dev nD) (t : Fin cfg0.N) (h1 : t.val % 2 = 1) (hlt : t.val - 1 < cfg0.N) : Holds (outsAt0 m c (t.val - 1) hlt).2.2.2 (m ((c : Thread nD τ).loc main_arg0)) (m ((c : Thread nD τ).loc main_arg4)) :=
  holds0 m c ⟨t.val - 1, hlt⟩ (by show (t.val - 1) % 2 = 0; omega)

/-- The keys of a point's rows, from a scratch that holds the projections. -/
theorem keys_of (x : FVec Ideal S16x16x1024 .f32) (w : FVec Ideal S1x1024x2816 .f32) (P : Vec Ideal S256x2816 .f32) (hP : Holds P x w) (T : Vec Ideal S128x640 .f32)
    (hT : ∀ rr e, rr < 128 → e < 640 → at2 T rr e = tabVal (rr % 16) e) (n : ℕ) (hn : n < 2) (si : Fin 8) (f : Fin 16) (g : Fin 2) (d : Fin 64) :
    keyLane P T (128 * n + (si.val * 16 + f.val)) (si.val * 16 + f.val) (g.val * 64 + d.val)
      = keysOut x w (ix4 (⟨n * 8 + si.val, by omega⟩ : Fin 16) f g d) := by
  rw [keyLane_rot P T hT _ _ (by omega) g d, show (si.val * 16 + f.val) % 16 = f.val by omega]
  refine congrArg (fun p => rotSwa p f.val d) (funext fun d' => ?_)
  have hg : g.val < 2 := g.isLt
  have hd : d'.val < 64 := d'.isLt
  refine Eq.trans ?_ (hP (⟨n * 8 + si.val, by omega⟩ : Fin 16) f ⟨2560 + (g.val * 64 + d'.val), by omega⟩ (Or.inr (by show 2560 ≤ 2560 + _; omega)))
  exact at2_congr _ (by show _ = (n * 8 + si.val) * 16 + f.val; omega) rfl

/-- The values of a point's rows, from a scratch that holds the projections. -/
theorem values_of (x : FVec Ideal S16x16x1024 .f32) (w : FVec Ideal S1x1024x2816 .f32) (P : Vec Ideal S256x2816 .f32) (hP : Holds P x w)
    (n : ℕ) (hn : n < 2) (si : Fin 8) (f : Fin 16) (g : Fin 2) (d : Fin 64) :
    at2 P (128 * n + (si.val * 16 + f.val)) (2688 + (g.val * 64 + d.val)) = valuesOut x w (ix4 (⟨n * 8 + si.val, by omega⟩ : Fin 16) f g d) := by
  have hg : g.val < 2 := g.isLt
  have hd : d.val < 64 := d.isLt
  refine Eq.trans ?_ (hP (⟨n * 8 + si.val, by omega⟩ : Fin 16) f ⟨2688 + (g.val * 64 + d.val), by omega⟩ (Or.inr (by show 2560 ≤ 2688 + _; omega)))
  exact at2_congr _ (by show _ = (n * 8 + si.val) * 16 + f.val; omega) rfl

/-- The states of a point's streams, from a scratch that holds the projections. -/
theorem states_of (x : FVec Ideal S16x16x1024 .f32) (s : FVec Ideal S1x16x4x128x128 .f32) (w : FVec Ideal S1x1024x2816 .f32) (P : Vec Ideal S256x2816 .f32) (hP : Holds P x w)
    (T : Vec Ideal S128x640 .f32) (hT : ∀ rr e, rr < 128 → e < 640 → at2 T rr e = tabVal (rr % 16) e)
    (K : Vec Ideal S128x512 .f32) (hK : ∀ rr e, rr < 128 → e < 512 → at2 K rr e = Ideal.ofBits .f32 0x3DB504F3#32 * keyDec (rr % 16) (e / 128))
    (G : Vec Ideal S1x512 .f32) (hG : ∀ e, e < 512 → at2 G 0 e = stateDec (e / 128))
    (n : ℕ) (hn : n < 2) (O : Vec Ideal S8x4x128x128 .f32) (si : Fin 8) (h : Fin 4) (d e : Fin 128)
    (hO : O (ix4 si h d e) = s (ix5 0 (⟨n * 8 + si.val, by omega⟩ : Fin 16) h d e)) :
    at2 G 0 (h.val * 128 + e.val) * at4 O si.val h.val d.val e.val
      + ∑ t : Fin 16, keyRow P T K (128 * n + (si.val * 16 + t.val)) (si.val * 16 + t.val) h.val d.val * at2 P (128 * n + (si.val * 16 + t.val)) (1024 + (h.val * 128 + e.val))
      = stateOut x s w (ix4 (⟨n * 8 + si.val, by omega⟩ : Fin 16) h d e) := by
  have hh : h.val < 4 := h.isLt
  have he : e.val < 128 := e.isLt
  refine congrArg₂ (· + ·) (congrArg₂ (· * ·) ?_ ((at4_eq O si h d e).symm.trans hO)) (Finset.sum_congr rfl fun f _ => congrArg₂ (· * ·) ?_ ?_)
  · rw [hG _ (by omega), show (h.val * 128 + e.val) / 128 = h.val by omega]
    rfl
  · rw [keyRow_rot P T K hT hK _ _ (by omega) h d, show (si.val * 16 + f.val) % 16 = f.val by omega]
    refine congrArg (fun p => rotRet p f.val d * keyDec f.val h.val) (funext fun d' => congrArg (· * Ideal.ofBits .f32 0x3DB504F3#32) ?_)
    have hd : d'.val < 128 := d'.isLt
    refine Eq.trans ?_ (hP (⟨n * 8 + si.val, by omega⟩ : Fin 16) f ⟨512 + (h.val * 128 + d'.val), by omega⟩ (Or.inl (by show 512 + _ < 2048; omega)))
    exact at2_congr _ (by show _ = (n * 8 + si.val) * 16 + f.val; omega) rfl
  · refine Eq.trans ?_ (hP (⟨n * 8 + si.val, by omega⟩ : Fin 16) f ⟨1024 + (h.val * 128 + e.val), by omega⟩ (Or.inl (by show 1024 + _ < 2048; omega)))
    exact at2_congr _ (by show _ = (n * 8 + si.val) * 16 + f.val; omega) rfl

/-- What a point leaves in the keys' output buffer. -/
theorem left16 (c : Dev nD) (t : Fin cfg0.N) (hN : t.val < 2) (si : Fin 8) (f : Fin 16) (g : Fin 2) (d : Fin 64) :
    (outsAt0 m c t.val t.isLt).1 (ix4 si f g d) = keysOut (m ((c : Thread nD τ).loc main_arg0)) (m ((c : Thread nD τ).loc main_arg4)) (ix4 (⟨t.val * 8 + si.val, by omega⟩ : Fin 16) f g d) := by
  by_cases h0 : t.val % 2 = 0
  · have hP := holds0 m c t h0
    simp only [outsAt0_A m c t h0 (by omega)] at hP ⊢
    rw [outA16_at, crd t]
    exact keys_of _ _ _ (hP) _ (tabN m c t) t.val hN si f g d
  · simp only [outsAt0_B m c t h0 (by omega)]
    rw [outB16_at, crd t]
    exact keys_of _ _ _ (holds1 m c t (by omega) _) _ (tabN m c t) t.val hN si f g d

/-- The keys' output array after the run. -/
theorem final16 (c : Dev nD) : (dats m 0 c).arrAt 16 (cfgs 0).N = keysOut (m ((c : Thread nD τ).loc main_arg0)) (m ((c : Thread nD τ).loc main_arg4)) := by
  refine (dats m 0 c).arrAt_eq_of_covers 16 _ (by decide +kernel) fun t hf y => ?_
  blk_simp
  rw [after0_16]
  idx_vars y
  have hN : t.val < 2 := lt_of_lt_of_eq t.isLt (show cfg0.N = 2 from N_0)
  refine (left16 m c t hN y0 y1 y2 y3).trans (congrArg _ ?_)
  blk_ext [idx t]

/-- What a point leaves in the values' output buffer. -/
theorem left17 (c : Dev nD) (t : Fin cfg0.N) (hN : t.val < 2) (si : Fin 8) (f : Fin 16) (g : Fin 2) (d : Fin 64) :
    (outsAt0 m c t.val t.isLt).2.1 (ix4 si f g d) = valuesOut (m ((c : Thread nD τ).loc main_arg0)) (m ((c : Thread nD τ).loc main_arg4)) (ix4 (⟨t.val * 8 + si.val, by omega⟩ : Fin 16) f g d) := by
  by_cases h0 : t.val % 2 = 0
  · have hP := holds0 m c t h0
    simp only [outsAt0_A m c t h0 (by omega)] at hP ⊢
    rw [outA17_at, crd t]
    exact values_of _ _ _ (hP) t.val hN si f g d
  · simp only [outsAt0_B m c t h0 (by omega)]
    rw [outB17_at, crd t]
    exact values_of _ _ _ (holds1 m c t (by omega) _) t.val hN si f g d

/-- The values' output array after the run. -/
theorem final17 (c : Dev nD) : (dats m 0 c).arrAt 17 (cfgs 0).N = valuesOut (m ((c : Thread nD τ).loc main_arg0)) (m ((c : Thread nD τ).loc main_arg4)) := by
  refine (dats m 0 c).arrAt_eq_of_covers 17 _ (by decide +kernel) fun t hf y => ?_
  blk_simp
  rw [after0_17]
  idx_vars y
  have hN : t.val < 2 := lt_of_lt_of_eq t.isLt (show cfg0.N = 2 from N_0)
  refine (left17 m c t hN y0 y1 y2 y3).trans (congrArg _ ?_)
  blk_ext [idx t]

/-- What a point leaves in the states' output buffer. -/
theorem left18 (c : Dev nD) (t : Fin cfg0.N) (hN : t.val < 2) (si : Fin 8) (h : Fin 4) (d e : Fin 128) :
    (outsAt0 m c t.val t.isLt).2.2.1 (ix4 si h d e) = stateOut (m ((c : Thread nD τ).loc main_arg0)) (m ((c : Thread nD τ).loc main_arg3)) (m ((c : Thread nD τ).loc main_arg4)) (ix4 (⟨t.val * 8 + si.val, by omega⟩ : Fin 16) h d e) := by
  by_cases h0 : t.val % 2 = 0
  · have hP := holds0 m c t h0
    simp only [outsAt0_A m c t h0 (by omega)] at hP ⊢
    rw [outA18_at, crd t]
    exact states_of _ _ _ _ (hP) _ (tabN m c t) _ (kdecN m c t) _ (gamN m c t) t.val hN _ si h d e ((blk9 m c t hN si h d e).trans (state_at m c _ h d e))
  · simp only [outsAt0_B m c t h0 (by omega)]
    rw [outB18_at, crd t]
    exact states_of _ _ _ _ (holds1 m c t (by omega) _) _ (tabN m c t) _ (kdecN m c t) _ (gamN m c t) t.val hN _ si h d e ((blk9 m c t hN si h d e).trans (state_at m c _ h d e))

/-- The states' output array after the run. -/
theorem final18 (c : Dev nD) : (dats m 0 c).arrAt 18 (cfgs 0).N = stateOut (m ((c : Thread nD τ).loc main_arg0)) (m ((c : Thread nD τ).loc main_arg3)) (m ((c : Thread nD τ).loc main_arg4)) := by
  refine (dats m 0 c).arrAt_eq_of_covers 18 _ (by decide +kernel) fun t hf y => ?_
  blk_simp
  rw [after0_18]
  idx_vars y
  have hN : t.val < 2 := lt_of_lt_of_eq t.isLt (show cfg0.N = 2 from N_0)
  refine (left18 m c t hN y0 y1 y2 y3).trans (congrArg _ ?_)
  blk_ext [idx t]

/-- The run with its three results named. -/
theorem run_rows : θ_run defs (onTc (τ := τ) (main (F := Ideal))) ⟨m, fun _ => 0, ρ⟩ fun r => ∀ c : Dev nD,
      r.2.mem ((c : Thread nD τ).loc main_v163_1) = keysOut (m ((c : Thread nD τ).loc main_arg0)) (m ((c : Thread nD τ).loc main_arg4))
      ∧ r.2.mem ((c : Thread nD τ).loc main_v163_2) = valuesOut (m ((c : Thread nD τ).loc main_arg0)) (m ((c : Thread nD τ).loc main_arg4))
      ∧ r.2.mem ((c : Thread nD τ).loc main_v163_3) = stateOut (m ((c : Thread nD τ).loc main_arg0)) (m ((c : Thread nD τ).loc main_arg3)) (m ((c : Thread nD τ).loc main_arg4)) := by
  refine (θ_run defs _ _).mono (fun r h c => ?_) (run_main m ρ)
  have get : ∀ w : Fin 21, forgets0 w = false → r.2.mem ((cfg0.spec w).arr.view.loc (c : Thread nD τ)) = (dats m 0 c).arrAt w cfg0.N :=
    fun w hw => ((dats m 0 c).toRForget_arrAt_iff hw _ _).mp ((h c).1 w)
  exact ⟨(get 16 forgets0_16).trans (final16 m c), (get 17 forgets0_17).trans (final17 m c), (get 18 forgets0_18).trans (final18 m c)⟩

end Cert.Kernel2Ideal.Smp

end
-- ==== Proof.Smp.Ref.lean ====
module

public import proofs.«01_k».proof.Proof.Smp.Spec
public import proofs.«01_k».proof.Proof.Gen.Reference2Ideal.Run
public import proofs.«01_k».proof.Proof.Gen.Reference2Ideal.Read
public import Idealize.ShloMosaic.Lib.Claim
public import Idealize.ShloMosaic.Lib.Pipeline.Value
public import Idealize.ShloMosaic.Lib.Pointwise
public import Idealize.ShloMosaic.Lib.Pipeline.ValueKit
public import Idealize.ShloMosaic.Lib.Pipeline.ReadBack
public import Idealize.ShloMosaic.Lib.ValueIdx
public import Idealize.ShloMosaic.PureOps.Ideal.Laws

@[expose] public section

set_option maxRecDepth 16384

noncomputable section

namespace Cert.Kernel2Ideal.Smp

open Cert.Reference2Ideal
open Idealize.ShloMosaic Idealize.ShloMosaic.TcCoe Idealize.SL.Sem
open Idealize.ShloMosaic.Pipeline (Dat)

/-- The reference's angles of the retention heads. -/
theorem ang_ret (t : Fin 16) (i : Fin 64) : Read.val_main_v26 (F := Ideal) (ix2 t i) = retAng t.val i.val := by
  simp only [retAng]
  pointwise [Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_cst_0, Read.val_main_cst_1, Read.val_main_v2, Read.val_main_v1, Read.val_main_v0, Read.val_main_c]

/-- The reference's angles of the attention heads. -/
theorem ang_swa (t : Fin 16) (i : Fin 8) : Read.val_main_v63 (F := Ideal) (ix2 t i) = swaAng t.val i.val := by
  simp only [swaAng]
  pointwise [Read.val_main_v63, Read.val_main_v62, Read.val_main_v61, Read.val_main_v60, Read.val_main_v59, Read.val_main_v58, Read.val_main_v57, Read.val_main_v56, Read.val_main_v55, Read.val_main_v54, Read.val_main_v53, Read.val_main_v52, Read.val_main_cst_2, Read.val_main_cst_3, Read.val_main_v2, Read.val_main_v1, Read.val_main_v0, Read.val_main_c]

/-- The reference's projection. -/
theorem ref_proj (x : FVec Ideal S16x16x1024 .f32) (w : FVec Ideal S1x1024x2816 .f32) (b t : Fin 16) (e : Fin 2816) : Read.val_main_v4 (F := Ideal) x w (ix3 b t e) = projAt x w b t e := by
  simp only [projAt]
  pointwise [Read.val_main_v4, Read.val_main_v3]

/-- The reference's scaled retention keys before rotation. -/
theorem ref_rk (x : FVec Ideal S16x16x1024 .f32) (w : FVec Ideal S1x1024x2816 .f32) (b t : Fin 16) (h : Fin 4) (d : Fin 128) :
    Read.val_main_v14 (F := Ideal) x w (ix4 b t h d) = projAt x w b t ⟨512 + (h.val * 128 + d.val), by omega⟩ * Ideal.ofBits .f32 0x3DB504F3#32 := by
  pointwise [Read.val_main_v14, Read.val_main_v13, Read.val_main_v12, Read.val_main_v6, ref_proj, Read.val_main_cst]

/-- The reference's rotated retention keys. -/
theorem ref_rot (x : FVec Ideal S16x16x1024 .f32) (w : FVec Ideal S1x1024x2816 .f32) (b t : Fin 16) (h : Fin 4) (d : Fin 128) :
    Read.val_main_v49 (F := Ideal) x w (ix4 b t h d) = rotRet (fun d => projAt x w b t ⟨512 + (h.val * 128 + d.val), by omega⟩ * Ideal.ofBits .f32 0x3DB504F3#32) t.val d := by
  unfold rotRet
  pointwise [Read.val_main_v49, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, ang_ret, ref_rk]
  by_cases h64 : d.val < 64
  · simp only [h64, ↓reduceDIte, Nat.add_comm 64 d.val]
  · have e : 64 + (d.val - 64) = d.val := by omega
    simp only [h64, ↓reduceDIte, e]

/-- The reference's attention keys before rotation. -/
theorem ref_sk (x : FVec Ideal S16x16x1024 .f32) (w : FVec Ideal S1x1024x2816 .f32) (b t : Fin 16) (g : Fin 2) (d : Fin 64) :
    Read.val_main_v51 (F := Ideal) x w (ix4 b t g d) = projAt x w b t ⟨2560 + (g.val * 64 + d.val), by omega⟩ := by
  pointwise [Read.val_main_v51, Read.val_main_v10, ref_proj]

/-- The reference's rotated attention keys. -/
theorem ref_keys (x : FVec Ideal S16x16x1024 .f32) (w : FVec Ideal S1x1024x2816 .f32) (b t : Fin 16) (g : Fin 2) (d : Fin 64) :
    Read.val_main_v87 (F := Ideal) x w (ix4 b t g d) = keysOut x w (ix4 b t g d) := by
  simp only [keysOut]
  unfold rotSwa
  pointwise [Read.val_main_v87, Read.val_main_v86, Read.val_main_v85, Read.val_main_v84, Read.val_main_v83, Read.val_main_v82, Read.val_main_v81, Read.val_main_v80, Read.val_main_v79, Read.val_main_v78, Read.val_main_v77, Read.val_main_v76, Read.val_main_v75, Read.val_main_v74, Read.val_main_v73, Read.val_main_v72, Read.val_main_v71, Read.val_main_v70, Read.val_main_v69, Read.val_main_v68, Read.val_main_v67, Read.val_main_v66, Read.val_main_v65, Read.val_main_v64, ang_swa, ref_sk]
  by_cases h8 : d.val < 8
  · have h16 : d.val < 16 := by omega
    simp only [h8, h16, ↓reduceDIte, Nat.add_comm 8 d.val]
  · by_cases h16 : d.val < 16
    · have e : 8 + (d.val - 8) = d.val := by omega
      simp only [h8, h16, ↓reduceDIte, e]
    · have e : 16 + (d.val - 16) = d.val := by omega
      simp only [h8, h16, ↓reduceDIte, e]

/-- The reference's attention values. -/
theorem ref_values (x : FVec Ideal S16x16x1024 .f32) (w : FVec Ideal S1x1024x2816 .f32) (b t : Fin 16) (g : Fin 2) (d : Fin 64) :
    Read.val_main_v88 (F := Ideal) x w (ix4 b t g d) = valuesOut x w (ix4 b t g d) := by
  simp only [valuesOut]
  pointwise [Read.val_main_v88, Read.val_main_v11, ref_proj]

/-- The reference's decay of the keys. -/
theorem ref_dec (t : Fin 16) (h : Fin 4) : Read.val_main_v105 (F := Ideal) (ix2 t h) = keyDec t.val h.val := by
  simp only [keyDec, logGam]
  pointwise [Read.val_main_v105, Read.val_main_v104, Read.val_main_v103, Read.val_main_v102, Read.val_main_v101, Read.val_main_v100, Read.val_main_v99, Read.val_main_v98, Read.val_main_v97, Read.val_main_v96, Read.val_main_v95, Read.val_main_v94, Read.val_main_v93, Read.val_main_v92, Read.val_main_v91, Read.val_main_v90, Read.val_main_cst_4, Read.val_main_cst_5, Read.val_main_cst_6]

/-- The reference's decay of the state. -/
theorem ref_gam (h : Fin 4) : Read.val_main_v108 (F := Ideal) (ix1 h) = stateDec h.val := by
  simp only [stateDec, logGam]
  pointwise [Read.val_main_v108, Read.val_main_v107, Read.val_main_v106, Read.val_main_v96, Read.val_main_v95, Read.val_main_v94, Read.val_main_v93, Read.val_main_v92, Read.val_main_v91, Read.val_main_v90, Read.val_main_cst_4, Read.val_main_cst_5, Read.val_main_cst_7]

/-- The reference's new state. -/
theorem ref_state (x : FVec Ideal S16x16x1024 .f32) (s : FVec Ideal S1x16x4x128x128 .f32) (w : FVec Ideal S1x1024x2816 .f32) (b : Fin 16) (h : Fin 4) (d e : Fin 128) :
    Read.val_main_v116 (F := Ideal) x s w (ix4 b h d e) = stateOut x s w (ix4 b h d e) := by
  simp only [stateOut]
  pointwise [Read.val_main_v116, Read.val_main_v115, Read.val_main_v114, Read.val_main_v113, Read.val_main_v112, Read.val_main_v111, Read.val_main_v110, Read.val_main_v109, Read.val_main_v89, Read.val_main_v50, Read.val_main_v7, ref_rot, ref_proj, ref_dec, ref_gam]

/-- The reference's first result is the new keys. -/
theorem ref_k (m : (ℓ : Loc Cert.Reference2Ideal.nD Cert.Reference2Ideal.τ Cert.Reference2Ideal.sig) → Buf (Elt Ideal) ℓ) (c : Dev Cert.Reference2Ideal.nD) :
    Cert.Reference2Ideal.Value.res_main_v87 (F := Ideal) m c = keysOut (m ((c : Thread Cert.Reference2Ideal.nD Cert.Reference2Ideal.τ).loc Cert.Reference2Ideal.main_arg0)) (m ((c : Thread Cert.Reference2Ideal.nD Cert.Reference2Ideal.τ).loc Cert.Reference2Ideal.main_arg4)) := by
  rw [Read.val_main_v87_eq]
  funext j
  idx_vars j
  exact ref_keys _ _ j0 j1 j2 j3

/-- The reference's third result is the new state. -/
theorem ref_s (m : (ℓ : Loc Cert.Reference2Ideal.nD Cert.Reference2Ideal.τ Cert.Reference2Ideal.sig) → Buf (Elt Ideal) ℓ) (c : Dev Cert.Reference2Ideal.nD) :
    Cert.Reference2Ideal.Value.res_main_v116 (F := Ideal) m c = stateOut (m ((c : Thread Cert.Reference2Ideal.nD Cert.Reference2Ideal.τ).loc Cert.Reference2Ideal.main_arg0)) (m ((c : Thread Cert.Reference2Ideal.nD Cert.Reference2Ideal.τ).loc Cert.Reference2Ideal.main_arg3)) (m ((c : Thread Cert.Reference2Ideal.nD Cert.Reference2Ideal.τ).loc Cert.Reference2Ideal.main_arg4)) := by
  rw [Read.val_main_v116_eq]
  funext j
  idx_vars j
  exact ref_state _ _ _ j0 j1 j2 j3

/-- The reference's second result is the new values. -/
theorem ref_v (x : FVec Ideal S16x16x1024 .f32) (w : FVec Ideal S1x1024x2816 .f32) : Read.val_main_v88 (F := Ideal) x w = valuesOut x w := by
  funext j
  idx_vars j
  exact ref_values _ _ j0 j1 j2 j3

end Cert.Kernel2Ideal.Smp

end
-- ==== Proof.Smp.Words.lean ====
/- The sample mixer's frame over machine words: the two printed programs have the same text, so that the run proved for the idealized
   one, over any float values, is the other's too. -/
module

public import proofs.«01_k».proof.Defs
public import proofs.«01_k».proof.Proof.Gen.Kernel2
public import proofs.«01_k».proof.Proof.Smp.Frame
public import Idealize.ShloMosaic.Lib.Claim

@[expose] public section

noncomputable section

namespace Cert.Kernel2Ideal.Smp

open Idealize.ShloMosaic Idealize.SL.Sem

set_option maxHeartbeats 2000000 in
/-- The two printed sample mixers have the same body table. -/
theorem bodies2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl
  | ⟨_ + 1, h⟩, _ => exact absurd h (Nat.not_lt.2 (Nat.le_add_left _ _))

set_option maxHeartbeats 2000000 in
/-- The two printed sample mixers have the same table of procedures. -/
theorem defs2 : Cert.Kernel2.defs (F := Bits) = Cert.Kernel2Ideal.defs (F := Bits) :=
  congrArg (Pipeline.defs (Cert.Kernel2Ideal.pcfgs (F := Bits))) bodies2

set_option maxHeartbeats 2000000 in
/-- Their host texts agree: statements 1 to 60. -/
theorem part0 : Cert.Kernel2.main_part0 (F := Bits) = Cert.Kernel2Ideal.main_part0 (F := Bits) := (rfl)

set_option maxHeartbeats 2000000 in
/-- Their host texts agree: statements 61 to 120. -/
theorem part1 : Cert.Kernel2.main_part1 (F := Bits) = Cert.Kernel2Ideal.main_part1 (F := Bits) := (rfl)

set_option maxHeartbeats 2000000 in
/-- Their host texts agree: statements 121 to 180. -/
theorem part2 : Cert.Kernel2.main_part2 (F := Bits) = Cert.Kernel2Ideal.main_part2 (F := Bits) := (rfl)

set_option maxHeartbeats 2000000 in
/-- Their host texts agree: the remaining statements, with the call. -/
theorem part3 : Cert.Kernel2.main_part3 (F := Bits) = Cert.Kernel2Ideal.main_part3 (F := Bits) := (rfl)

set_option maxHeartbeats 2000000 in
/-- Their host texts agree. -/
theorem main2 : Cert.Kernel2.main (F := Bits) = Cert.Kernel2Ideal.main (F := Bits) := by
  unfold Cert.Kernel2.main Cert.Kernel2Ideal.main
  rw [part0, part1, part2, part3]
  rfl

set_option maxHeartbeats 2000000 in
/-- The sample mixer read over machine words runs and leaves its arguments as they were: its text is the idealized kernel's. -/
theorem frame_words : Cert.quiescent_Kernel2 (hKernel2 := Cert.Kernel2.Gen.facts) := by
  intro m ρ _
  rw [defs2, main2]
  exact frame (F := Bits) m ρ

end Cert.Kernel2Ideal.Smp

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Mlp.Frame
public import proofs.«01_k».proof.Proof.Mlp.Final
public import proofs.«01_k».proof.Proof.Mlp.Ref
public import proofs.«01_k».proof.Proof.Smp.Frame
public import proofs.«01_k».proof.Proof.Smp.Final
public import proofs.«01_k».proof.Proof.Smp.Ref
public import proofs.«01_k».proof.Proof.Smp.Words
public import Idealize.ShloMosaic.Lib.Claim
public import Idealize.ShloMosaic.Adequacy
public import Idealize.ShloMosaic.Init

@[expose] public section

noncomputable section

namespace Cert.Proof

open Idealize.ShloMosaic Idealize.SL.Sem Cert.Kernel3

/-- The MLP kernel and its reference, read over exact numbers, return the same two arrays from the same arguments. -/
theorem algebraic_mlp : Cert.algebraic_Kernel3Ideal_Reference3Ideal (hKernel3Ideal := Cert.Kernel3Ideal.Gen.facts) (hReference3Ideal := Cert.Reference3Ideal.Gen.facts) := by
  pair_intro
  · run_from Cert.Kernel3Ideal.Mlp.run_rows m g & Cert.Kernel3Ideal.Mlp.unchanged m g
  · run_from Cert.Reference3Ideal.Value.run m' g'
    · refine (Cert.Kernel3Ideal.Mlp.ref_prompt m' c).trans ?_
      obtain ⟨h0, h1, h2, h3, h4, h5⟩ := hagree c
      rw [h0, h2, h3, h4, h5]
    · refine (Cert.Kernel3Ideal.Mlp.ref_sample m' c).trans ?_
      obtain ⟨h0, h1, h2, h3, h4, h5⟩ := hagree c
      rw [h1, h2, h3, h4, h5]

/-- The two printed MLP kernels have the same body table. -/
theorem bodies3 : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl
  | ⟨_ + 1, h⟩, _ => exact absurd h (Nat.not_lt.2 (Nat.le_add_left _ _))

/-- The two printed MLP kernels have the same table of procedures. -/
theorem defs3 : Cert.Kernel3.defs (F := Bits) = Cert.Kernel3Ideal.defs (F := Bits) :=
  congrArg (Pipeline.defs (Cert.Kernel3Ideal.pcfgs (F := Bits))) bodies3

/-- The MLP kernel read over machine words runs and leaves its arguments as they were: its text is the idealized kernel's. -/
theorem frame_kernel3 : Cert.quiescent_Kernel3 (hKernel3 := Cert.Kernel3.Gen.facts) := by
  intro m ρ _
  rw [defs3]
  exact Cert.Kernel3Ideal.Mlp.frame (F := Bits) m ρ

/-- The MLP's reference runs and leaves its arguments as they were; it declares no semaphore. -/
theorem frame_ref3 : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run m g)

/-- The sample mixer and its reference, read over exact numbers, return the same keys, values and states from the same arguments. -/
theorem algebraic_smp : Cert.algebraic_Kernel2Ideal_Reference2Ideal (hKernel2Ideal := Cert.Kernel2Ideal.Gen.facts) (hReference2Ideal := Cert.Reference2Ideal.Gen.facts) := by
  pair_intro
  · run_from Cert.Kernel2Ideal.Smp.run_rows m g & Cert.Kernel2Ideal.Smp.unchanged m g
  · run_from Cert.Reference2Ideal.Value.run m' g'
    · refine (Cert.Kernel2Ideal.Smp.ref_k m' c).trans ?_
      obtain ⟨h0, h1, h2, h3, h4, h5⟩ := hagree c
      rw [h0, h4]
    · exact Cert.Kernel2Ideal.Smp.ref_v _ _
    · refine (Cert.Kernel2Ideal.Smp.ref_s m' c).trans ?_
      obtain ⟨h0, h1, h2, h3, h4, h5⟩ := hagree c
      rw [h0, h3, h4]

/-- The sample mixer's reference runs and leaves its arguments as they were; it declares no semaphore. -/
theorem frame_ref2 : Cert.quiescent_Reference2Ideal (hReference2Ideal := Cert.Reference2Ideal.Gen.facts) := fun m g _ =>
  (θ_run Cert.Reference2Ideal.defs _ _).mono (fun r h => ⟨fun c => (h c).2.2.2, sem_eq_zero_of_no_sems (by decide) r.2⟩)
    (Cert.Reference2Ideal.Value.run m g)

/-- Everything that is claimed. -/
theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel2Ideal.Smp.frame_words, fun m g _ => Cert.Kernel2Ideal.Smp.frame m g, frame_ref2,
  frame_kernel3, fun m g _ => Cert.Kernel3Ideal.Mlp.frame m g, frame_ref3,
  trivial, algebraic_smp, trivial, algebraic_mlp⟩

end Cert.Proof

end
